-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_well_posed [hPre_well_posed : Cert.Pre_well_posed.Facts] (m : (ℓ : Loc Cert.KernelIdeal.nD Cert.KernelIdeal.τ Cert.KernelIdeal.sig) → Buf (Elt Ideal) ℓ) : Prop :=
  ∀ c : Dev Cert.KernelIdeal.nD,
    (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_posed [hPre_well_posed : Cert.Pre_well_posed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_well_posed [hKernelIdeal : Cert.KernelIdeal.Facts] [hPre_well_posed : Cert.Pre_well_posed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_well_posed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_well_posed [hReferenceIdeal : Cert.ReferenceIdeal.Facts] [hPre_well_posed : Cert.Pre_well_posed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_posed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_well_posed [hKernelIdeal : Cert.KernelIdeal.Facts] [hReferenceIdeal : Cert.ReferenceIdeal.Facts] [hPre_well_posed : Cert.Pre_well_posed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_well_posed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_well_posed : Cert.Pre_well_posed.Facts),
    quiescent_Kernel (hKernel := hKernel)
    ∧ quiescent_KernelIdeal (hKernelIdeal := hKernelIdeal)
    ∧ quiescent_KernelIdeal_pre_well_posed (hKernelIdeal := hKernelIdeal) (hPre_well_posed := hPre_well_posed)
    ∧ quiescent_ReferenceIdeal (hReferenceIdeal := hReferenceIdeal)
    ∧ quiescent_ReferenceIdeal_pre_well_posed (hReferenceIdeal := hReferenceIdeal) (hPre_well_posed := hPre_well_posed)
    ∧ preserves_Kernel_KernelIdeal
    ∧ algebraic_KernelIdeal_ReferenceIdeal_pre_well_posed (hKernelIdeal := hKernelIdeal) (hReferenceIdeal := hReferenceIdeal) (hPre_well_posed := hPre_well_posed)
-- ==== Pre_well_posed.lean ====
abbrev S4x2048x768 : Shape := ⟨3, ![4, 2048, 768]⟩
abbrev S100x768 : Shape := ⟨2, ![100, 768]⟩
abbrev S4x2048 : Shape := ⟨2, ![4, 2048]⟩
abbrev S_ : Shape := ⟨0, ![]⟩
abbrev S4x2048x1 : Shape := ⟨3, ![4, 2048, 1]⟩
abbrev S4x2047 : Shape := ⟨2, ![4, 2047]⟩
abbrev S4x1 : Shape := ⟨2, ![4, 1]⟩
abbrev S96x768 : Shape := ⟨2, ![96, 768]⟩
abbrev S64x768 : Shape := ⟨2, ![64, 768]⟩
abbrev S64 : Shape := ⟨1, ![64]⟩
abbrev S1x1x64 : Shape := ⟨3, ![1, 1, 64]⟩
abbrev S4x2048x64 : Shape := ⟨3, ![4, 2048, 64]⟩
abbrev S4x2048x64x1 : Shape := ⟨4, ![4, 2048, 64, 1]⟩
abbrev S4x2048x1x768 : Shape := ⟨4, ![4, 2048, 1, 768]⟩
abbrev S4x2048x64x768 : Shape := ⟨4, ![4, 2048, 64, 768]⟩
abbrev S64x1 : Shape := ⟨2, ![64, 1]⟩
abbrev S1x1x64x768 : Shape := ⟨4, ![1, 1, 64, 768]⟩
abbrev S32x768 : Shape := ⟨2, ![32, 768]⟩
abbrev S32 : Shape := ⟨1, ![32]⟩
abbrev S1x1x32 : Shape := ⟨3, ![1, 1, 32]⟩
abbrev S4x2048x32 : Shape := ⟨3, ![4, 2048, 32]⟩
abbrev S4x2048x32x1 : Shape := ⟨4, ![4, 2048, 32, 1]⟩
abbrev S4x2048x32x768 : Shape := ⟨4, ![4, 2048, 32, 768]⟩
abbrev S32x1 : Shape := ⟨2, ![32, 1]⟩
abbrev S1x1x32x768 : Shape := ⟨4, ![1, 1, 32, 768]⟩
abbrev S96 : Shape := ⟨1, ![96]⟩

class Facts : Prop where
  reducesTo_S4x2048x768_S4x2048_d2 : S4x2048x768.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x768_0_1_2 : S4x2048x1.BroadcastsInDim S4x2048x768 (![0, 1, 2] : Fin 3 → Fin S4x2048x768.rank)
  bcast_S_S4x2048 : S_.BroadcastsInDim S4x2048 (![] : Fin 0 → Fin S4x2048.rank)
  slices_S4x2048_S4x2047_0_1 : S4x2048.Slices ![0, 1] S4x2047
  slices_S4x2048_S4x1_0_0 : S4x2048.Slices ![0, 0] S4x1
  concatenates_S4x2047_S4x1_S4x2048_d1 : Shape.Concatenates [S4x2047, S4x1] S4x2048 1
  slices_S100x768_S96x768_4_0 : S100x768.Slices ![4, 0] S96x768
  slices_S100x768_S64x768_4_0 : S100x768.Slices ![4, 0] S64x768
  bcast_S_S64 : S_.BroadcastsInDim S64 (![] : Fin 0 → Fin S64.rank)
  bcast_S64_S1x1x64_2 : S64.BroadcastsInDim S1x1x64 (![2] : Fin 1 → Fin S1x1x64.rank)
  bcast_S4x2048x1_S4x2048x64_0_1_2 : S4x2048x1.BroadcastsInDim S4x2048x64 (![0, 1, 2] : Fin 3 → Fin S4x2048x64.rank)
  bcast_S1x1x64_S4x2048x64_0_1_2 : S1x1x64.BroadcastsInDim S4x2048x64 (![0, 1, 2] : Fin 3 → Fin S4x2048x64.rank)
  bcast_S4x2048x64_S4x2048x64x1_0_1_2 : S4x2048x64.BroadcastsInDim S4x2048x64x1 (![0, 1, 2] : Fin 3 → Fin S4x2048x64x1.rank)
  bcast_S4x2048x768_S4x2048x1x768_0_1_3 : S4x2048x768.BroadcastsInDim S4x2048x1x768 (![0, 1, 3] : Fin 3 → Fin S4x2048x1x768.rank)
  bcast_S4x2048x64x1_S4x2048x64x768_0_1_2_3 : S4x2048x64x1.BroadcastsInDim S4x2048x64x768 (![0, 1, 2, 3] : Fin 4 → Fin S4x2048x64x768.rank)
  bcast_S4x2048x1x768_S4x2048x64x768_0_1_2_3 : S4x2048x1x768.BroadcastsInDim S4x2048x64x768 (![0, 1, 2, 3] : Fin 4 → Fin S4x2048x64x768.rank)
  bcast_S_S_ : S_.BroadcastsInDim S_ (![] : Fin 0 → Fin S_.rank)
  reduceWindows_S4x2048x64x768_S4x2048x64x768_w1s1p0_0_w2048s1p2047_0_w1s1p0_0_w1s1p0_0 : S4x2048x64x768.ReduceWindows (![1, 2048, 1, 1] : Fin 4 → Nat) ![1, 1, 1, 1] ![0, 2047, 0, 0] ![0, 0, 0, 0] S4x2048x64x768
  reducesTo_S64x768_S64_d1 : S64x768.ReducesTo [1] S64
  bcast_S64_S64x1_0 : S64.BroadcastsInDim S64x1 (![0] : Fin 1 → Fin S64x1.rank)
  bcast_S_S64x1 : S_.BroadcastsInDim S64x1 (![] : Fin 0 → Fin S64x1.rank)
  bcast_S64x1_S64x768_0_1 : S64x1.BroadcastsInDim S64x768 (![0, 1] : Fin 2 → Fin S64x768.rank)
  bcast_S_S64x768 : S_.BroadcastsInDim S64x768 (![] : Fin 0 → Fin S64x768.rank)
  bcast_S64x768_S1x1x64x768_2_3 : S64x768.BroadcastsInDim S1x1x64x768 (![2, 3] : Fin 2 → Fin S1x1x64x768.rank)
  bcast_S1x1x64x768_S4x2048x64x768_0_1_2_3 : S1x1x64x768.BroadcastsInDim S4x2048x64x768 (![0, 1, 2, 3] : Fin 4 → Fin S4x2048x64x768.rank)
  reduceWindows_S4x2048x64_S4x2048x64_w1s1p0_0_w2048s1p2047_0_w1s1p0_0 : S4x2048x64.ReduceWindows (![1, 2048, 1] : Fin 3 → Nat) ![1, 1, 1] ![0, 2047, 0] ![0, 0, 0] S4x2048x64
  bcast_S_S4x2048x64x1 : S_.BroadcastsInDim S4x2048x64x1 (![] : Fin 0 → Fin S4x2048x64x1.rank)
  reducesTo_S4x2048x64x768_S4x2048x64_d3 : S4x2048x64x768.ReducesTo [3] S4x2048x64
  bcast_S_S4x2048x64 : S_.BroadcastsInDim S4x2048x64 (![] : Fin 0 → Fin S4x2048x64.rank)
  slices_S100x768_S32x768_68_0 : S100x768.Slices ![68, 0] S32x768
  bcast_S_S32 : S_.BroadcastsInDim S32 (![] : Fin 0 → Fin S32.rank)
  bcast_S32_S1x1x32_2 : S32.BroadcastsInDim S1x1x32 (![2] : Fin 1 → Fin S1x1x32.rank)
  bcast_S4x2048x1_S4x2048x32_0_1_2 : S4x2048x1.BroadcastsInDim S4x2048x32 (![0, 1, 2] : Fin 3 → Fin S4x2048x32.rank)
  bcast_S1x1x32_S4x2048x32_0_1_2 : S1x1x32.BroadcastsInDim S4x2048x32 (![0, 1, 2] : Fin 3 → Fin S4x2048x32.rank)
  bcast_S4x2048x32_S4x2048x32x1_0_1_2 : S4x2048x32.BroadcastsInDim S4x2048x32x1 (![0, 1, 2] : Fin 3 → Fin S4x2048x32x1.rank)
  bcast_S4x2048x32x1_S4x2048x32x768_0_1_2_3 : S4x2048x32x1.BroadcastsInDim S4x2048x32x768 (![0, 1, 2, 3] : Fin 4 → Fin S4x2048x32x768.rank)
  bcast_S4x2048x1x768_S4x2048x32x768_0_1_2_3 : S4x2048x1x768.BroadcastsInDim S4x2048x32x768 (![0, 1, 2, 3] : Fin 4 → Fin S4x2048x32x768.rank)
  reduceWindows_S4x2048x32x768_S4x2048x32x768_w1s1p0_0_w2048s1p2047_0_w1s1p0_0_w1s1p0_0 : S4x2048x32x768.ReduceWindows (![1, 2048, 1, 1] : Fin 4 → Nat) ![1, 1, 1, 1] ![0, 2047, 0, 0] ![0, 0, 0, 0] S4x2048x32x768
  reducesTo_S32x768_S32_d1 : S32x768.ReducesTo [1] S32
  bcast_S32_S32x1_0 : S32.BroadcastsInDim S32x1 (![0] : Fin 1 → Fin S32x1.rank)
  bcast_S_S32x1 : S_.BroadcastsInDim S32x1 (![] : Fin 0 → Fin S32x1.rank)
  bcast_S32x1_S32x768_0_1 : S32x1.BroadcastsInDim S32x768 (![0, 1] : Fin 2 → Fin S32x768.rank)
  bcast_S_S32x768 : S_.BroadcastsInDim S32x768 (![] : Fin 0 → Fin S32x768.rank)
  bcast_S32x768_S1x1x32x768_2_3 : S32x768.BroadcastsInDim S1x1x32x768 (![2, 3] : Fin 2 → Fin S1x1x32x768.rank)
  bcast_S1x1x32x768_S4x2048x32x768_0_1_2_3 : S1x1x32x768.BroadcastsInDim S4x2048x32x768 (![0, 1, 2, 3] : Fin 4 → Fin S4x2048x32x768.rank)
  reduceWindows_S4x2048x32_S4x2048x32_w1s1p0_0_w2048s1p2047_0_w1s1p0_0 : S4x2048x32.ReduceWindows (![1, 2048, 1] : Fin 3 → Nat) ![1, 1, 1] ![0, 2047, 0] ![0, 0, 0] S4x2048x32
  bcast_S_S4x2048x32x1 : S_.BroadcastsInDim S4x2048x32x1 (![] : Fin 0 → Fin S4x2048x32x1.rank)
  reducesTo_S4x2048x32x768_S4x2048x32_d3 : S4x2048x32x768.ReducesTo [3] S4x2048x32
  bcast_S_S4x2048x32 : S_.BroadcastsInDim S4x2048x32 (![] : Fin 0 → Fin S4x2048x32.rank)
  reducesTo_S96x768_S96_d1 : S96x768.ReducesTo [1] S96
  bcast_S_S96 : S_.BroadcastsInDim S96 (![] : Fin 0 → Fin S96.rank)

variable [Facts]

def fn_norm {F : FTy → Type} [FloatOps F] (arg0 : FVec F S4x2048x768 .f32) : FVec F S4x2048x1 .f32 :=
  let v0 : FVec F S4x2048x768 .f32 := mulf arg0 arg0
  let cst : FVec F S_ .f32 := constant S_ .f32 0x00000000#32
  let v1 : FVec F S4x2048 .f32 := (fun x v => Host.reduceAdd x v reducesTo_S4x2048x768_S4x2048_d2 h_S_) v0 cst
  let v2 : FVec F S4x2048x1 .f32 := broadcastInDim S4x2048x1 ![0, 1] bcast_S4x2048_S4x2048x1_0_1 v1
  let v3 : FVec F S4x2048x1 .f32 := Host.sqrt v2
  v3

def fn_softplus {F : FTy → Type} [FloatOps F] (arg0 : FVec F S_ .f32) : FVec F S_ .f32 :=
  let cst : FVec F S_ .f32 := constant S_ .f32 0x00000000#32
  let v0 : FVec F S_ .f32 := maximumf arg0 cst
  let v1 : FVec F S_ .f32 := subf arg0 cst
  let v2 : IVec S_ 1 := cmpf .une v1 v1
  let v3 : FVec F S_ .f32 := addf arg0 cst
  let v4 : FVec F S_ .f32 := Host.absf v1
  let v5 : FVec F S_ .f32 := Host.negf v4
  let v6 : FVec F S_ .f32 := Host.exp v5
  let v7 : FVec F S_ .f32 := Host.log1p v6
  let v8 : FVec F S_ .f32 := addf v0 v7
  let v9 : FVec F S_ .f32 := select v2 v3 v8
  v9

def fn_cumsum_0 {F : FTy → Type} [FloatOps F] (arg0 : FVec F S4x2048x64x768 .f32) : FVec F S4x2048x64x768 .f32 :=
  let cst : FVec F S_ .f32 := constant S_ .f32 0x00000000#32
  let v0 : FVec F S_ .f32 := broadcastInDim S_ ![] bcast_S_S_ cst
  let v1 : FVec F S4x2048x64x768 .f32 := (fun x v => Host.reduceWindowAdd ![1, 2048, 1, 1] ![1, 1, 1, 1] ![0, 2047, 0, 0] ![0, 0, 0, 0] x v reduceWindows_S4x2048x64x768_S4x2048x64x768_w1s1p0_0_w2048s1p2047_0_w1s1p0_0_w1s1p0_0 h_S_) arg0 v0
  v1

def fn_cumsum {F : FTy → Type} [FloatOps F] (arg0 : FVec F S4x2048x64x768 .f32) : FVec F S4x2048x64x768 .f32 :=
  let v0 : FVec F S4x2048x64x768 .f32 := fn_cumsum_0 (F := F) arg0
  v0

def fn_norm_1 {F : FTy → Type} [FloatOps F] (arg0 : FVec F S64x768 .f32) : FVec F S64x1 .f32 :=
  let v0 : FVec F S64x768 .f32 := mulf arg0 arg0
  let cst : FVec F S_ .f32 := constant S_ .f32 0x00000000#32
  let v1 : FVec F S64 .f32 := (fun x v => Host.reduceAdd x v reducesTo_S64x768_S64_d1 h_S_) v0 cst
  let v2 : FVec F S64x1 .f32 := broadcastInDim S64x1 ![0] bcast_S64_S64x1_0 v1
  let v3 : FVec F S64x1 .f32 := Host.sqrt v2
  v3

def fn_cumsum_3 {F : FTy → Type} [FloatOps F] (arg0 : FVec F S4x2048x64 .f32) : FVec F S4x2048x64 .f32 :=
  let cst : FVec F S_ .f32 := constant S_ .f32 0x00000000#32
  let v0 : FVec F S_ .f32 := broadcastInDim S_ ![] bcast_S_S_ cst
  let v1 : FVec F S4x2048x64 .f32 := (fun x v => Host.reduceWindowAdd ![1, 2048, 1] ![1, 1, 1] ![0, 2047, 0] ![0, 0, 0] x v reduceWindows_S4x2048x64_S4x2048x64_w1s1p0_0_w2048s1p2047_0_w1s1p0_0 h_S_) arg0 v0
  v1

def fn_cumsum_2 {F : FTy → Type} [FloatOps F] (arg0 : FVec F S4x2048x64 .f32) : FVec F S4x2048x64 .f32 :=
  let v0 : FVec F S4x2048x64 .f32 := fn_cumsum_3 (F := F) arg0
  v0

def fn_norm_4 {F : FTy → Type} [FloatOps F] (arg0 : FVec F S4x2048x64x768 .f32) : FVec F S4x2048x64 .f32 :=
  let v0 : FVec F S4x2048x64x768 .f32 := mulf arg0 arg0
  let cst : FVec F S_ .f32 := constant S_ .f32 0x00000000#32
  let v1 : FVec F S4x2048x64 .f32 := (fun x v => Host.reduceAdd x v reducesTo_S4x2048x64x768_S4x2048x64_d3 h_S_) v0 cst
  let v2 : FVec F S4x2048x64 .f32 := Host.sqrt v1
  v2

def fn_cumsum_6 {F : FTy → Type} [FloatOps F] (arg0 : FVec F S4x2048x32x768 .f32) : FVec F S4x2048x32x768 .f32 :=
  let cst : FVec F S_ .f32 := constant S_ .f32 0x00000000#32
  let v0 : FVec F S_ .f32 := broadcastInDim S_ ![] bcast_S_S_ cst
  let v1 : FVec F S4x2048x32x768 .f32 := (fun x v => Host.reduceWindowAdd ![1, 2048, 1, 1] ![1, 1, 1, 1] ![0, 2047, 0, 0] ![0, 0, 0, 0] x v reduceWindows_S4x2048x32x768_S4x2048x32x768_w1s1p0_0_w2048s1p2047_0_w1s1p0_0_w1s1p0_0 h_S_) arg0 v0
  v1

def fn_cumsum_5 {F : FTy → Type} [FloatOps F] (arg0 : FVec F S4x2048x32x768 .f32) : FVec F S4x2048x32x768 .f32 :=
  let v0 : FVec F S4x2048x32x768 .f32 := fn_cumsum_6 (F := F) arg0
  v0

def fn_norm_7 {F : FTy → Type} [FloatOps F] (arg0 : FVec F S32x768 .f32) : FVec F S32x1 .f32 :=
  let v0 : FVec F S32x768 .f32 := mulf arg0 arg0
  let cst : FVec F S_ .f32 := constant S_ .f32 0x00000000#32
  let v1 : FVec F S32 .f32 := (fun x v => Host.reduceAdd x v reducesTo_S32x768_S32_d1 h_S_) v0 cst
  let v2 : FVec F S32x1 .f32 := broadcastInDim S32x1 ![0] bcast_S32_S32x1_0 v1
  let v3 : FVec F S32x1 .f32 := Host.sqrt v2
  v3

def fn_cumsum_9 {F : FTy → Type} [FloatOps F] (arg0 : FVec F S4x2048x32 .f32) : FVec F S4x2048x32 .f32 :=
  let cst : FVec F S_ .f32 := constant S_ .f32 0x00000000#32
  let v0 : FVec F S_ .f32 := broadcastInDim S_ ![] bcast_S_S_ cst
  let v1 : FVec F S4x2048x32 .f32 := (fun x v => Host.reduceWindowAdd ![1, 2048, 1] ![1, 1, 1] ![0, 2047, 0] ![0, 0, 0] x v reduceWindows_S4x2048x32_S4x2048x32_w1s1p0_0_w2048s1p2047_0_w1s1p0_0 h_S_) arg0 v0
  v1

def fn_cumsum_8 {F : FTy → Type} [FloatOps F] (arg0 : FVec F S4x2048x32 .f32) : FVec F S4x2048x32 .f32 :=
  let v0 : FVec F S4x2048x32 .f32 := fn_cumsum_9 (F := F) arg0
  v0

def fn_norm_10 {F : FTy → Type} [FloatOps F] (arg0 : FVec F S4x2048x32x768 .f32) : FVec F S4x2048x32 .f32 :=
  let v0 : FVec F S4x2048x32x768 .f32 := mulf arg0 arg0
  let cst : FVec F S_ .f32 := constant S_ .f32 0x00000000#32
  let v1 : FVec F S4x2048x32 .f32 := (fun x v => Host.reduceAdd x v reducesTo_S4x2048x32x768_S4x2048x32_d3 h_S_) v0 cst
  let v2 : FVec F S4x2048x32 .f32 := Host.sqrt v1
  v2

def fn_norm_11 {F : FTy → Type} [FloatOps F] (arg0 : FVec F S96x768 .f32) : FVec F S96 .f32 :=
  let v0 : FVec F S96x768 .f32 := mulf arg0 arg0
  let cst : FVec F S_ .f32 := constant S_ .f32 0x00000000#32
  let v1 : FVec F S96 .f32 := (fun x v => Host.reduceAdd x v reducesTo_S96x768_S96_d1 h_S_) v0 cst
  let v2 : FVec F S96 .f32 := Host.sqrt v1
  v2

def fn_part4 {F : FTy → Type} [FloatOps F] (main_v10 : FVec F S96x768 .f32) (main_v53 : IVec S4x2048x64 1) (main_v56 : IVec S4x2048x64 1) (main_v58 : FVec F S_ .f32) (main_v70 : FVec F S4x2048x32 .f32) (main_v77 : FVec F S4x2048x32x768 .f32) (main_v86 : FVec F S4x2048x32x768 .f32) : IVec S96 1 × IVec S4x2048x64 1 × IVec S4x2048x64 1 × IVec S4x2048x32 1 × IVec S4x2048x32 1 :=
  let main_v87 : FVec F S4x2048x32x768 .f32 := addf main_v77 main_v86
  let main_v88 : FVec F S4x2048x32 .f32 := fn_cumsum_8 (F := F) main_v70
  let main_v89 : FVec F S4x2048x32 .f32 := subf main_v88 main_v70
  let main_v90 : FVec F S4x2048x32x1 .f32 := broadcastInDim S4x2048x32x1 ![0, 1, 2] bcast_S4x2048x32_S4x2048x32x1_0_1_2 main_v89
  let main_v91 : FVec F S4x2048x32x1 .f32 := broadcastInDim S4x2048x32x1 ![] bcast_S_S4x2048x32x1 main_v58
  let main_v92 : FVec F S4x2048x32x1 .f32 := addf main_v90 main_v91
  let main_cst_7 : FVec F S_ .f32 := constant S_ .f32 0x322BCC77#32
  let main_v93 : FVec F S4x2048x32x1 .f32 := broadcastInDim S4x2048x32x1 ![] bcast_S_S4x2048x32x1 main_cst_7
  let main_v94 : FVec F S4x2048x32x1 .f32 := addf main_v92 main_v93
  let main_v95 : FVec F S4x2048x32x768 .f32 := broadcastInDim S4x2048x32x768 ![0, 1, 2, 3] bcast_S4x2048x32x1_S4x2048x32x768_0_1_2_3 main_v94
  let main_v96 : FVec F S4x2048x32x768 .f32 := Host.divf main_v87 main_v95
  let main_v97 : FVec F S4x2048x32 .f32 := fn_norm_10 (F := F) main_v87
  let main_cst_8 : FVec F S_ .f32 := constant S_ .f32 0x2B8CBCCC#32
  let main_v98 : FVec F S4x2048x32 .f32 := broadcastInDim S4x2048x32 ![] bcast_S_S4x2048x32 main_cst_8
  let main_v99 : IVec S4x2048x32 1 := cmpf .oge main_v97 main_v98
  let main_v100 : FVec F S4x2048x32 .f32 := fn_norm_10 (F := F) main_v96
  let main_cst_9 : FVec F S_ .f32 := constant S_ .f32 0x2B8CBCCC#32
  let main_v101 : FVec F S4x2048x32 .f32 := broadcastInDim S4x2048x32 ![] bcast_S_S4x2048x32 main_cst_9
  let main_v102 : IVec S4x2048x32 1 := cmpf .oge main_v100 main_v101
  let main_v103 : FVec F S96 .f32 := fn_norm_11 (F := F) main_v10
  let main_cst_10 : FVec F S_ .f32 := constant S_ .f32 0x2B8CBCCC#32
  let main_v104 : FVec F S96 .f32 := broadcastInDim S96 ![] bcast_S_S96 main_cst_10
  let main_v105 : IVec S96 1 := cmpf .oge main_v103 main_v104
  (main_v105, main_v53, main_v56, main_v99, main_v102)

def fn_part3 {F : FTy → Type} [FloatOps F] (main_v4 : FVec F S4x2048x768 .f32) (main_v6 : IVec S4x2048 1) (main_v10 : FVec F S96x768 .f32) (main_v53 : IVec S4x2048x64 1) (main_v56 : IVec S4x2048x64 1) (main_v57 : FVec F S32x768 .f32) (main_v58 : FVec F S_ .f32) (main_v59 : IVec S4x2048x1 32) (main_v63 : IVec S1x1x32 32) : IVec S96 1 × IVec S4x2048x64 1 × IVec S4x2048x64 1 × IVec S4x2048x32 1 × IVec S4x2048x32 1 :=
  let main_v64 : IVec S4x2048x32 32 := broadcastInDim S4x2048x32 ![0, 1, 2] bcast_S4x2048x1_S4x2048x32_0_1_2 main_v59
  let main_v65 : IVec S4x2048x32 32 := broadcastInDim S4x2048x32 ![0, 1, 2] bcast_S1x1x32_S4x2048x32_0_1_2 main_v63
  let main_v66 : IVec S4x2048x32 1 := cmpi .eq main_v64 main_v65
  let main_v67 : IVec S4x2048x1 1 := broadcastInDim S4x2048x1 ![0, 1] bcast_S4x2048_S4x2048x1_0_1 main_v6
  let main_v68 : IVec S4x2048x32 1 := broadcastInDim S4x2048x32 ![0, 1, 2] bcast_S4x2048x1_S4x2048x32_0_1_2 main_v67
  let main_v69 : IVec S4x2048x32 1 := andi main_v68 main_v66
  let main_v70 : FVec F S4x2048x32 .f32 := uitofp .f32 main_v69
  let main_v71 : FVec F S4x2048x32x1 .f32 := broadcastInDim S4x2048x32x1 ![0, 1, 2] bcast_S4x2048x32_S4x2048x32x1_0_1_2 main_v70
  let main_v72 : FVec F S4x2048x1x768 .f32 := broadcastInDim S4x2048x1x768 ![0, 1, 3] bcast_S4x2048x768_S4x2048x1x768_0_1_3 main_v4
  let main_v73 : FVec F S4x2048x32x768 .f32 := broadcastInDim S4x2048x32x768 ![0, 1, 2, 3] bcast_S4x2048x32x1_S4x2048x32x768_0_1_2_3 main_v71
  let main_v74 : FVec F S4x2048x32x768 .f32 := broadcastInDim S4x2048x32x768 ![0, 1, 2, 3] bcast_S4x2048x1x768_S4x2048x32x768_0_1_2_3 main_v72
  let main_v75 : FVec F S4x2048x32x768 .f32 := mulf main_v73 main_v74
  let main_v76 : FVec F S4x2048x32x768 .f32 := fn_cumsum_5 (F := F) main_v75
  let main_v77 : FVec F S4x2048x32x768 .f32 := subf main_v76 main_v75
  let main_v78 : FVec F S32x1 .f32 := fn_norm_7 (F := F) main_v57
  let main_cst_6 : FVec F S_ .f32 := constant S_ .f32 0x2B8CBCCC#32
  let main_v79 : FVec F S32x1 .f32 := broadcastInDim S32x1 ![] bcast_S_S32x1 main_cst_6
  let main_v80 : FVec F S32x1 .f32 := maximumf main_v78 main_v79
  let main_v81 : FVec F S32x768 .f32 := broadcastInDim S32x768 ![0, 1] bcast_S32x1_S32x768_0_1 main_v80
  let main_v82 : FVec F S32x768 .f32 := Host.divf main_v57 main_v81
  let main_v83 : FVec F S32x768 .f32 := broadcastInDim S32x768 ![] bcast_S_S32x768 main_v58
  let main_v84 : FVec F S32x768 .f32 := mulf main_v83 main_v82
  let main_v85 : FVec F S1x1x32x768 .f32 := broadcastInDim S1x1x32x768 ![2, 3] bcast_S32x768_S1x1x32x768_2_3 main_v84
  let main_v86 : FVec F S4x2048x32x768 .f32 := broadcastInDim S4x2048x32x768 ![0, 1, 2, 3] bcast_S1x1x32x768_S4x2048x32x768_0_1_2_3 main_v85
  fn_part4 (F := F) main_v10 main_v53 main_v56 main_v58 main_v70 main_v77 main_v86

def fn_part2 {F : FTy → Type} [FloatOps F] (main_arg1 : FVec F S100x768 .f32) (main_arg8 : FVec F S_ .f32) (main_v4 : FVec F S4x2048x768 .f32) (main_v6 : IVec S4x2048 1) (main_v9 : IVec S4x2048 32) (main_v10 : FVec F S96x768 .f32) (main_v12 : FVec F S_ .f32) (main_v41 : FVec F S4x2048x64x768 .f32) (main_v43 : FVec F S4x2048x64 .f32) : IVec S96 1 × IVec S4x2048x64 1 × IVec S4x2048x64 1 × IVec S4x2048x32 1 × IVec S4x2048x32 1 :=
  let main_v44 : FVec F S4x2048x64x1 .f32 := broadcastInDim S4x2048x64x1 ![0, 1, 2] bcast_S4x2048x64_S4x2048x64x1_0_1_2 main_v43
  let main_v45 : FVec F S4x2048x64x1 .f32 := broadcastInDim S4x2048x64x1 ![] bcast_S_S4x2048x64x1 main_v12
  let main_v46 : FVec F S4x2048x64x1 .f32 := addf main_v44 main_v45
  let main_cst_2 : FVec F S_ .f32 := constant S_ .f32 0x322BCC77#32
  let main_v47 : FVec F S4x2048x64x1 .f32 := broadcastInDim S4x2048x64x1 ![] bcast_S_S4x2048x64x1 main_cst_2
  let main_v48 : FVec F S4x2048x64x1 .f32 := addf main_v46 main_v47
  let main_v49 : FVec F S4x2048x64x768 .f32 := broadcastInDim S4x2048x64x768 ![0, 1, 2, 3] bcast_S4x2048x64x1_S4x2048x64x768_0_1_2_3 main_v48
  let main_v50 : FVec F S4x2048x64x768 .f32 := Host.divf main_v41 main_v49
  let main_v51 : FVec F S4x2048x64 .f32 := fn_norm_4 (F := F) main_v41
  let main_cst_3 : FVec F S_ .f32 := constant S_ .f32 0x2B8CBCCC#32
  let main_v52 : FVec F S4x2048x64 .f32 := broadcastInDim S4x2048x64 ![] bcast_S_S4x2048x64 main_cst_3
  let main_v53 : IVec S4x2048x64 1 := cmpf .oge main_v51 main_v52
  let main_v54 : FVec F S4x2048x64 .f32 := fn_norm_4 (F := F) main_v50
  let main_cst_4 : FVec F S_ .f32 := constant S_ .f32 0x2B8CBCCC#32
  let main_v55 : FVec F S4x2048x64 .f32 := broadcastInDim S4x2048x64 ![] bcast_S_S4x2048x64 main_cst_4
  let main_v56 : IVec S4x2048x64 1 := cmpf .oge main_v54 main_v55
  let main_v57 : FVec F S32x768 .f32 := (extractStridedSlice S32x768 ![68, 0] · slices_S100x768_S32x768_68_0) main_arg1
  let main_v58 : FVec F S_ .f32 := fn_softplus (F := F) main_arg8
  let main_v59 : IVec S4x2048x1 32 := broadcastInDim S4x2048x1 ![0, 1] bcast_S4x2048_S4x2048x1_0_1 main_v9
  let main_v60 : IVec S32 32 := iotaInDim S32 32 0
  let main_c_5 : IVec S_ 32 := constantI S_ 32 68#32
  let main_v61 : IVec S32 32 := broadcastInDim S32 ![] bcast_S_S32 main_c_5
  let main_v62 : IVec S32 32 := addi main_v61 main_v60
  let main_v63 : IVec S1x1x32 32 := broadcastInDim S1x1x32 ![2] bcast_S32_S1x1x32_2 main_v62
  fn_part3 (F := F) main_v4 main_v6 main_v10 main_v53 main_v56 main_v57 main_v58 main_v59 main_v63

def fn_part1 {F : FTy → Type} [FloatOps F] (main_arg1 : FVec F S100x768 .f32) (main_arg8 : FVec F S_ .f32) (main_v4 : FVec F S4x2048x768 .f32) (main_v6 : IVec S4x2048 1) (main_v9 : IVec S4x2048 32) (main_v10 : FVec F S96x768 .f32) (main_v11 : FVec F S64x768 .f32) (main_v12 : FVec F S_ .f32) (main_v20 : IVec S4x2048x64 1) : IVec S96 1 × IVec S4x2048x64 1 × IVec S4x2048x64 1 × IVec S4x2048x32 1 × IVec S4x2048x32 1 :=
  let main_v21 : IVec S4x2048x1 1 := broadcastInDim S4x2048x1 ![0, 1] bcast_S4x2048_S4x2048x1_0_1 main_v6
  let main_v22 : IVec S4x2048x64 1 := broadcastInDim S4x2048x64 ![0, 1, 2] bcast_S4x2048x1_S4x2048x64_0_1_2 main_v21
  let main_v23 : IVec S4x2048x64 1 := andi main_v22 main_v20
  let main_v24 : FVec F S4x2048x64 .f32 := uitofp .f32 main_v23
  let main_v25 : FVec F S4x2048x64x1 .f32 := broadcastInDim S4x2048x64x1 ![0, 1, 2] bcast_S4x2048x64_S4x2048x64x1_0_1_2 main_v24
  let main_v26 : FVec F S4x2048x1x768 .f32 := broadcastInDim S4x2048x1x768 ![0, 1, 3] bcast_S4x2048x768_S4x2048x1x768_0_1_3 main_v4
  let main_v27 : FVec F S4x2048x64x768 .f32 := broadcastInDim S4x2048x64x768 ![0, 1, 2, 3] bcast_S4x2048x64x1_S4x2048x64x768_0_1_2_3 main_v25
  let main_v28 : FVec F S4x2048x64x768 .f32 := broadcastInDim S4x2048x64x768 ![0, 1, 2, 3] bcast_S4x2048x1x768_S4x2048x64x768_0_1_2_3 main_v26
  let main_v29 : FVec F S4x2048x64x768 .f32 := mulf main_v27 main_v28
  let main_v30 : FVec F S4x2048x64x768 .f32 := fn_cumsum (F := F) main_v29
  let main_v31 : FVec F S4x2048x64x768 .f32 := subf main_v30 main_v29
  let main_v32 : FVec F S64x1 .f32 := fn_norm_1 (F := F) main_v11
  let main_cst_1 : FVec F S_ .f32 := constant S_ .f32 0x2B8CBCCC#32
  let main_v33 : FVec F S64x1 .f32 := broadcastInDim S64x1 ![] bcast_S_S64x1 main_cst_1
  let main_v34 : FVec F S64x1 .f32 := maximumf main_v32 main_v33
  let main_v35 : FVec F S64x768 .f32 := broadcastInDim S64x768 ![0, 1] bcast_S64x1_S64x768_0_1 main_v34
  let main_v36 : FVec F S64x768 .f32 := Host.divf main_v11 main_v35
  let main_v37 : FVec F S64x768 .f32 := broadcastInDim S64x768 ![] bcast_S_S64x768 main_v12
  let main_v38 : FVec F S64x768 .f32 := mulf main_v37 main_v36
  let main_v39 : FVec F S1x1x64x768 .f32 := broadcastInDim S1x1x64x768 ![2, 3] bcast_S64x768_S1x1x64x768_2_3 main_v38
  let main_v40 : FVec F S4x2048x64x768 .f32 := broadcastInDim S4x2048x64x768 ![0, 1, 2, 3] bcast_S1x1x64x768_S4x2048x64x768_0_1_2_3 main_v39
  let main_v41 : FVec F S4x2048x64x768 .f32 := addf main_v31 main_v40
  let main_v42 : FVec F S4x2048x64 .f32 := fn_cumsum_2 (F := F) main_v24
  let main_v43 : FVec F S4x2048x64 .f32 := subf main_v42 main_v24
  fn_part2 (F := F) main_arg1 main_arg8 main_v4 main_v6 main_v9 main_v10 main_v12 main_v41 main_v43

def fn {F : FTy → Type} [FloatOps F] (main_arg0 : FVec F S4x2048x768 .f32) (main_arg1 : FVec F S100x768 .f32) (main_arg2 : IVec S4x2048 32) (main_arg3 : FVec F S_ .f32) (main_arg4 : FVec F S_ .f32) (main_arg5 : FVec F S_ .f32) (main_arg6 : FVec F S_ .f32) (main_arg7 : FVec F S_ .f32) (main_arg8 : FVec F S_ .f32) (main_arg9 : FVec F S_ .f32) (main_arg10 : FVec F S_ .f32) : IVec S96 1 × IVec S4x2048x64 1 × IVec S4x2048x64 1 × IVec S4x2048x32 1 × IVec S4x2048x32 1 :=
  let main_v0 : FVec F S4x2048x1 .f32 := fn_norm (F := F) main_arg0
  let main_cst : FVec F S_ .f32 := constant S_ .f32 0x2B8CBCCC#32
  let main_v1 : FVec F S4x2048x1 .f32 := broadcastInDim S4x2048x1 ![] bcast_S_S4x2048x1 main_cst
  let main_v2 : FVec F S4x2048x1 .f32 := maximumf main_v0 main_v1
  let main_v3 : FVec F S4x2048x768 .f32 := broadcastInDim S4x2048x768 ![0, 1, 2] bcast_S4x2048x1_S4x2048x768_0_1_2 main_v2
  let main_v4 : FVec F S4x2048x768 .f32 := Host.divf main_arg0 main_v3
  let main_c : IVec S_ 32 := constantI S_ 32 1#32
  let main_v5 : IVec S4x2048 32 := broadcastInDim S4x2048 ![] bcast_S_S4x2048 main_c
  let main_v6 : IVec S4x2048 1 := cmpi .eq main_arg2 main_v5
  let main_v7 : IVec S4x2047 32 := (extractStridedSlice S4x2047 ![0, 1] · slices_S4x2048_S4x2047_0_1) main_arg2
  let main_v8 : IVec S4x1 32 := (extractStridedSlice S4x1 ![0, 0] · slices_S4x2048_S4x1_0_0) main_arg2
  let main_v9 : IVec S4x2048 32 := (fun a b => concatenate S4x2048 1 [⟨S4x2047, a⟩, ⟨S4x1, b⟩] concatenates_S4x2047_S4x1_S4x2048_d1) main_v7 main_v8
  let main_v10 : FVec F S96x768 .f32 := (extractStridedSlice S96x768 ![4, 0] · slices_S100x768_S96x768_4_0) main_arg1
  let main_v11 : FVec F S64x768 .f32 := (extractStridedSlice S64x768 ![4, 0] · slices_S100x768_S64x768_4_0) main_arg1
  let main_v12 : FVec F S_ .f32 := fn_softplus (F := F) main_arg7
  let main_v13 : IVec S4x2048x1 32 := broadcastInDim S4x2048x1 ![0, 1] bcast_S4x2048_S4x2048x1_0_1 main_v9
  let main_v14 : IVec S64 32 := iotaInDim S64 32 0
  let main_c_0 : IVec S_ 32 := constantI S_ 32 4#32
  let main_v15 : IVec S64 32 := broadcastInDim S64 ![] bcast_S_S64 main_c_0
  let main_v16 : IVec S64 32 := addi main_v15 main_v14
  let main_v17 : IVec S1x1x64 32 := broadcastInDim S1x1x64 ![2] bcast_S64_S1x1x64_2 main_v16
  let main_v18 : IVec S4x2048x64 32 := broadcastInDim S4x2048x64 ![0, 1, 2] bcast_S4x2048x1_S4x2048x64_0_1_2 main_v13
  let main_v19 : IVec S4x2048x64 32 := broadcastInDim S4x2048x64 ![0, 1, 2] bcast_S1x1x64_S4x2048x64_0_1_2 main_v17
  let main_v20 : IVec S4x2048x64 1 := cmpi .eq main_v18 main_v19
  fn_part1 (F := F) main_arg1 main_arg8 main_v4 main_v6 main_v9 main_v10 main_v11 main_v12 main_v20
-- ==== Kernel.lean ====
abbrev S4x2048x768 : Shape := ⟨3, ![4, 2048, 768]⟩
abbrev S100x768 : Shape := ⟨2, ![100, 768]⟩
abbrev S4x2048 : Shape := ⟨2, ![4, 2048]⟩
abbrev S_ : Shape := ⟨0, ![]⟩
abbrev S1 : Shape := ⟨1, ![1]⟩
abbrev S8 : Shape := ⟨1, ![8]⟩
abbrev S4x96x2048 : Shape := ⟨3, ![4, 96, 2048]⟩
abbrev S1x2048x768 : Shape := ⟨3, ![1, 2048, 768]⟩
abbrev S1x96x2048 : Shape := ⟨3, ![1, 96, 2048]⟩
abbrev S192x768 : Shape := ⟨2, ![192, 768]⟩
abbrev S1x128 : Shape := ⟨2, ![1, 128]⟩
abbrev S512x512 : Shape := ⟨2, ![512, 512]⟩
abbrev S1x96 : Shape := ⟨2, ![1, 96]⟩
abbrev S96x768 : Shape := ⟨2, ![96, 768]⟩
abbrev S96 : Shape := ⟨1, ![96]⟩
abbrev S96x1 : Shape := ⟨2, ![96, 1]⟩
abbrev S1x2048 : Shape := ⟨2, ![1, 2048]⟩
abbrev S1x512x768 : Shape := ⟨3, ![1, 512, 768]⟩
abbrev S512x768 : Shape := ⟨2, ![512, 768]⟩
abbrev S512 : Shape := ⟨1, ![512]⟩
abbrev S512x1 : Shape := ⟨2, ![512, 1]⟩
abbrev S1x512 : Shape := ⟨2, ![1, 512]⟩
abbrev S1x1 : Shape := ⟨2, ![1, 1]⟩
abbrev S1x511 : Shape := ⟨2, ![1, 511]⟩
abbrev S512x96 : Shape := ⟨2, ![512, 96]⟩
abbrev S512x192 : Shape := ⟨2, ![512, 192]⟩
abbrev S512x30 : Shape := ⟨2, ![512, 30]⟩
abbrev S512x128 : Shape := ⟨2, ![512, 128]⟩
abbrev S1x2 : Shape := ⟨2, ![1, 2]⟩
abbrev S512x2 : Shape := ⟨2, ![512, 2]⟩
abbrev S96x512 : Shape := ⟨2, ![96, 512]⟩
abbrev S1x96x512 : Shape := ⟨3, ![1, 96, 512]⟩
abbrev S128 : Shape := ⟨1, ![128]⟩
abbrev S4x2048x96 : Shape := ⟨3, ![4, 2048, 96]⟩

abbrev nBuf : Space → Nat
  | .hbm => 110
  | .vmem => 9
  | .smem => 1
  | _ => 0

abbrev bufTy : (tb : Table) → Fin (tcTables nBuf tb) → BufTy
  | .hbm, ⟨0, _⟩ => ⟨S4x2048x768, .f32⟩
  | .hbm, ⟨1, _⟩ => ⟨S100x768, .f32⟩
  | .hbm, ⟨2, _⟩ => ⟨S4x2048, .i32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .i1⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .i1⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .i1⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .i1⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .i1⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .i1⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .i1⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .i1⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S1, .f32⟩
  | .hbm, ⟨100, _⟩ => ⟨S1, .f32⟩
  | .hbm, ⟨101, _⟩ => ⟨S1, .f32⟩
  | .hbm, ⟨102, _⟩ => ⟨S1, .f32⟩
  | .hbm, ⟨103, _⟩ => ⟨S1, .f32⟩
  | .hbm, ⟨104, _⟩ => ⟨S1, .f32⟩
  | .hbm, ⟨105, _⟩ => ⟨S1, .f32⟩
  | .hbm, ⟨106, _⟩ => ⟨S1, .f32⟩
  | .hbm, ⟨107, _⟩ => ⟨S8, .f32⟩
  | .hbm, ⟨108, _⟩ => ⟨S4x96x2048, .f32⟩
  | .hbm, ⟨109, _⟩ => ⟨S4x2048x96, .f32⟩
  | .local _ .vmem, ⟨0, _⟩ => ⟨S4x2048, .i32⟩
  | .local _ .vmem, ⟨1, _⟩ => ⟨S1x2048x768, .f32⟩
  | .local _ .vmem, ⟨2, _⟩ => ⟨S1x2048x768, .f32⟩
  | .local _ .vmem, ⟨3, _⟩ => ⟨S100x768, .f32⟩
  | .local _ .vmem, ⟨4, _⟩ => ⟨S1x96x2048, .f32⟩
  | .local _ .vmem, ⟨5, _⟩ => ⟨S1x96x2048, .f32⟩
  | .local _ .vmem, ⟨6, _⟩ => ⟨S192x768, .f32⟩
  | .local _ .vmem, ⟨7, _⟩ => ⟨S1x128, .f32⟩
  | .local _ .vmem, ⟨8, _⟩ => ⟨S512x512, .f32⟩
  | .local _ .smem, ⟨0, _⟩ => ⟨S8, .f32⟩
  | _, _ => ⟨S4x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_v0 : Ref sig .tc := ⟨.hbm, 21, rfl⟩
abbrev main_call1_cst : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_v5 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_v1 : Ref sig .tc := ⟨.hbm, 32, rfl⟩
abbrev main_call2_cst : Ref sig .tc := ⟨.hbm, 33, rfl⟩
abbrev main_call2_v0 : Ref sig .tc := ⟨.hbm, 34, rfl⟩
abbrev main_call2_v1 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_call2_v5 : Ref sig .tc := ⟨.hbm, 39, rfl⟩
abbrev main_call2_v6 : Ref sig .tc := ⟨.hbm, 40, rfl⟩
abbrev main_call2_v7 : Ref sig .tc := ⟨.hbm, 41, rfl⟩
abbrev main_call2_v8 : Ref sig .tc := ⟨.hbm, 42, rfl⟩
abbrev main_v2 : Ref sig .tc := ⟨.hbm, 43, rfl⟩
abbrev main_call3_cst : Ref sig .tc := ⟨.hbm, 44, rfl⟩
abbrev main_call3_v0 : Ref sig .tc := ⟨.hbm, 45, rfl⟩
abbrev main_call3_v1 : Ref sig .tc := ⟨.hbm, 46, rfl⟩
abbrev main_call3_v2 : Ref sig .tc := ⟨.hbm, 47, rfl⟩
abbrev main_call3_v3 : Ref sig .tc := ⟨.hbm, 48, rfl⟩
abbrev main_call3_v4 : Ref sig .tc := ⟨.hbm, 49, rfl⟩
abbrev main_call3_v5 : Ref sig .tc := ⟨.hbm, 50, rfl⟩
abbrev main_call3_v6 : Ref sig .tc := ⟨.hbm, 51, rfl⟩
abbrev main_call3_v7 : Ref sig .tc := ⟨.hbm, 52, rfl⟩
abbrev main_call3_v8 : Ref sig .tc := ⟨.hbm, 53, rfl⟩
abbrev main_v3 : Ref sig .tc := ⟨.hbm, 54, rfl⟩
abbrev main_call4_cst : Ref sig .tc := ⟨.hbm, 55, rfl⟩
abbrev main_call4_v0 : Ref sig .tc := ⟨.hbm, 56, rfl⟩
abbrev main_call4_v1 : Ref sig .tc := ⟨.hbm, 57, rfl⟩
abbrev main_call4_v2 : Ref sig .tc := ⟨.hbm, 58, rfl⟩
abbrev main_call4_v3 : Ref sig .tc := ⟨.hbm, 59, rfl⟩
abbrev main_call4_v4 : Ref sig .tc := ⟨.hbm, 60, rfl⟩
abbrev main_call4_v5 : Ref sig .tc := ⟨.hbm, 61, rfl⟩
abbrev main_call4_v6 : Ref sig .tc := ⟨.hbm, 62, rfl⟩
abbrev main_call4_v7 : Ref sig .tc := ⟨.hbm, 63, rfl⟩
abbrev main_call4_v8 : Ref sig .tc := ⟨.hbm, 64, rfl⟩
abbrev main_v4 : Ref sig .tc := ⟨.hbm, 65, rfl⟩
abbrev main_call5_cst : Ref sig .tc := ⟨.hbm, 66, rfl⟩
abbrev main_call5_v0 : Ref sig .tc := ⟨.hbm, 67, rfl⟩
abbrev main_call5_v1 : Ref sig .tc := ⟨.hbm, 68, rfl⟩
abbrev main_call5_v2 : Ref sig .tc := ⟨.hbm, 69, rfl⟩
abbrev main_call5_v3 : Ref sig .tc := ⟨.hbm, 70, rfl⟩
abbrev main_call5_v4 : Ref sig .tc := ⟨.hbm, 71, rfl⟩
abbrev main_call5_v5 : Ref sig .tc := ⟨.hbm, 72, rfl⟩
abbrev main_call5_v6 : Ref sig .tc := ⟨.hbm, 73, rfl⟩
abbrev main_call5_v7 : Ref sig .tc := ⟨.hbm, 74, rfl⟩
abbrev main_call5_v8 : Ref sig .tc := ⟨.hbm, 75, rfl⟩
abbrev main_v5 : Ref sig .tc := ⟨.hbm, 76, rfl⟩
abbrev main_call6_cst : Ref sig .tc := ⟨.hbm, 77, rfl⟩
abbrev main_call6_v0 : Ref sig .tc := ⟨.hbm, 78, rfl⟩
abbrev main_call6_v1 : Ref sig .tc := ⟨.hbm, 79, rfl⟩
abbrev main_call6_v2 : Ref sig .tc := ⟨.hbm, 80, rfl⟩
abbrev main_call6_v3 : Ref sig .tc := ⟨.hbm, 81, rfl⟩
abbrev main_call6_v4 : Ref sig .tc := ⟨.hbm, 82, rfl⟩
abbrev main_call6_v5 : Ref sig .tc := ⟨.hbm, 83, rfl⟩
abbrev main_call6_v6 : Ref sig .tc := ⟨.hbm, 84, rfl⟩
abbrev main_call6_v7 : Ref sig .tc := ⟨.hbm, 85, rfl⟩
abbrev main_call6_v8 : Ref sig .tc := ⟨.hbm, 86, rfl⟩
abbrev main_v6 : Ref sig .tc := ⟨.hbm, 87, rfl⟩
abbrev main_call7_cst : Ref sig .tc := ⟨.hbm, 88, rfl⟩
abbrev main_call7_v0 : Ref sig .tc := ⟨.hbm, 89, rfl⟩
abbrev main_call7_v1 : Ref sig .tc := ⟨.hbm, 90, rfl⟩
abbrev main_call7_v2 : Ref sig .tc := ⟨.hbm, 91, rfl⟩
abbrev main_call7_v3 : Ref sig .tc := ⟨.hbm, 92, rfl⟩
abbrev main_call7_v4 : Ref sig .tc := ⟨.hbm, 93, rfl⟩
abbrev main_call7_v5 : Ref sig .tc := ⟨.hbm, 94, rfl⟩
abbrev main_call7_v6 : Ref sig .tc := ⟨.hbm, 95, rfl⟩
abbrev main_call7_v7 : Ref sig .tc := ⟨.hbm, 96, rfl⟩
abbrev main_call7_v8 : Ref sig .tc := ⟨.hbm, 97, rfl⟩
abbrev main_v7 : Ref sig .tc := ⟨.hbm, 98, rfl⟩
abbrev main_v8 : Ref sig .tc := ⟨.hbm, 99, rfl⟩
abbrev main_v9 : Ref sig .tc := ⟨.hbm, 100, rfl⟩
abbrev main_v10 : Ref sig .tc := ⟨.hbm, 101, rfl⟩
abbrev main_v11 : Ref sig .tc := ⟨.hbm, 102, rfl⟩
abbrev main_v12 : Ref sig .tc := ⟨.hbm, 103, rfl⟩
abbrev main_v13 : Ref sig .tc := ⟨.hbm, 104, rfl⟩
abbrev main_v14 : Ref sig .tc := ⟨.hbm, 105, rfl⟩
abbrev main_v15 : Ref sig .tc := ⟨.hbm, 106, rfl⟩
abbrev main_v16 : Ref sig .tc := ⟨.hbm, 107, rfl⟩
abbrev main_v17 : Ref sig .tc := ⟨.hbm, 108, rfl⟩
abbrev main_v18 : Ref sig .tc := ⟨.hbm, 109, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_stg3_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

def k0_off1 (i : grid0.Coords) : Fin 2 → Nat :=
  let arg0 : BitVec 32 := BitVec.ofNat 32 (i 0).val
  let v58 : Index := Scalar.indexCast arg0
  let c0_13 : Index := 0#32
  ![v58.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4x2048 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S100x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x96x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S4x2048x768 : Shape := ⟨3, ![4, 2048, 768]⟩
abbrev S100x768 : Shape := ⟨2, ![100, 768]⟩
abbrev S4x2048 : Shape := ⟨2, ![4, 2048]⟩
abbrev S_ : Shape := ⟨0, ![]⟩
abbrev S4x2048x1 : Shape := ⟨3, ![4, 2048, 1]⟩
abbrev S4x2047 : Shape := ⟨2, ![4, 2047]⟩
abbrev S4x1 : Shape := ⟨2, ![4, 1]⟩
abbrev S64x768 : Shape := ⟨2, ![64, 768]⟩
abbrev S64 : Shape := ⟨1, ![64]⟩
abbrev S1x1x64 : Shape := ⟨3, ![1, 1, 64]⟩
abbrev S4x2048x64 : Shape := ⟨3, ![4, 2048, 64]⟩
abbrev S4x2048x64x1 : Shape := ⟨4, ![4, 2048, 64, 1]⟩
abbrev S4x2048x1x768 : Shape := ⟨4, ![4, 2048, 1, 768]⟩
abbrev S4x2048x64x768 : Shape := ⟨4, ![4, 2048, 64, 768]⟩
abbrev S64x1 : Shape := ⟨2, ![64, 1]⟩
abbrev S1x1x64x768 : Shape := ⟨4, ![1, 1, 64, 768]⟩
abbrev S768x64 : Shape := ⟨2, ![768, 64]⟩
abbrev S32x768 : Shape := ⟨2, ![32, 768]⟩
abbrev S32 : Shape := ⟨1, ![32]⟩
abbrev S1x1x32 : Shape := ⟨3, ![1, 1, 32]⟩
abbrev S4x2048x32 : Shape := ⟨3, ![4, 2048, 32]⟩
abbrev S4x2048x32x1 : Shape := ⟨4, ![4, 2048, 32, 1]⟩
abbrev S4x2048x32x768 : Shape := ⟨4, ![4, 2048, 32, 768]⟩
abbrev S32x1 : Shape := ⟨2, ![32, 1]⟩
abbrev S1x1x32x768 : Shape := ⟨4, ![1, 1, 32, 768]⟩
abbrev S768x32 : Shape := ⟨2, ![768, 32]⟩
abbrev S4x2048x96 : Shape := ⟨3, ![4, 2048, 96]⟩

abbrev nBuf : Space → Nat
  | .hbm => 280
  | .vmem => 0
  | .smem => 0
  | _ => 0

abbrev hbmTy0_0 (i : Nat) : BufTy := match i % 128 with
  | 0 => ⟨S4x2048x768, .f32⟩
  | 1 => ⟨S100x768, .f32⟩
  | 2 => ⟨S4x2048, .i32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S4x2048x768, .f32⟩
  | 12 => ⟨S_, .f32⟩
  | 13 => ⟨S4x2048, .f32⟩
  | 14 => ⟨S4x2048x1, .f32⟩
  | 15 => ⟨S4x2048x1, .f32⟩
  | 16 => ⟨S_, .f32⟩
  | 17 => ⟨S4x2048x1, .f32⟩
  | 18 => ⟨S4x2048x1, .f32⟩
  | 19 => ⟨S4x2048x768, .f32⟩
  | 20 => ⟨S4x2048x768, .f32⟩
  | 21 => ⟨S_, .i32⟩
  | 22 => ⟨S4x2048, .i32⟩
  | 23 => ⟨S4x2048, .i1⟩
  | 24 => ⟨S4x2047, .i32⟩
  | 25 => ⟨S4x1, .i32⟩
  | 26 => ⟨S4x2048, .i32⟩
  | 27 => ⟨S64x768, .f32⟩
  | 28 => ⟨S_, .f32⟩
  | 29 => ⟨S_, .f32⟩
  | 30 => ⟨S_, .f32⟩
  | 31 => ⟨S_, .i1⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .i1⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .i1⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .i1⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S4x2048x1, .i32⟩
  | 73 => ⟨S64, .i32⟩
  | 74 => ⟨S_, .i32⟩
  | 75 => ⟨S64, .i32⟩
  | 76 => ⟨S64, .i32⟩
  | 77 => ⟨S1x1x64, .i32⟩
  | 78 => ⟨S4x2048x64, .i32⟩
  | 79 => ⟨S4x2048x64, .i32⟩
  | 80 => ⟨S4x2048x64, .i1⟩
  | 81 => ⟨S4x2048x1, .i1⟩
  | 82 => ⟨S4x2048x64, .i1⟩
  | 83 => ⟨S4x2048x64, .i1⟩
  | 84 => ⟨S4x2048x64, .f32⟩
  | 85 => ⟨S_, .f32⟩
  | 86 => ⟨S_, .f32⟩
  | 87 => ⟨S4x2048x64, .f32⟩
  | 88 => ⟨S4x2048x64, .f32⟩
  | 89 => ⟨S4x2048x64x1, .f32⟩
  | 90 => ⟨S4x2048x1x768, .f32⟩
  | 91 => ⟨S4x2048x64x768, .f32⟩
  | 92 => ⟨S4x2048x64x768, .f32⟩
  | 93 => ⟨S4x2048x64x768, .f32⟩
  | 94 => ⟨S_, .f32⟩
  | 95 => ⟨S_, .f32⟩
  | 96 => ⟨S4x2048x64x768, .f32⟩
  | 97 => ⟨S4x2048x64x768, .f32⟩
  | 98 => ⟨S64x768, .f32⟩
  | 99 => ⟨S_, .f32⟩
  | 100 => ⟨S64, .f32⟩
  | 101 => ⟨S64x1, .f32⟩
  | 102 => ⟨S64x1, .f32⟩
  | 103 => ⟨S_, .f32⟩
  | 104 => ⟨S64x1, .f32⟩
  | 105 => ⟨S64x1, .f32⟩
  | 106 => ⟨S64x768, .f32⟩
  | 107 => ⟨S64x768, .f32⟩
  | 108 => ⟨S64x768, .f32⟩
  | 109 => ⟨S64x768, .f32⟩
  | 110 => ⟨S1x1x64x768, .f32⟩
  | 111 => ⟨S4x2048x64x768, .f32⟩
  | 112 => ⟨S4x2048x64x768, .f32⟩
  | 113 => ⟨S4x2048x64x1, .f32⟩
  | 114 => ⟨S4x2048x64x1, .f32⟩
  | 115 => ⟨S4x2048x64x1, .f32⟩
  | 116 => ⟨S_, .f32⟩
  | 117 => ⟨S4x2048x64x1, .f32⟩
  | 118 => ⟨S4x2048x64x1, .f32⟩
  | 119 => ⟨S4x2048x64x768, .f32⟩
  | 120 => ⟨S4x2048x64x768, .f32⟩
  | 121 => ⟨S4x2048x64x768, .f32⟩
  | 122 => ⟨S_, .f32⟩
  | 123 => ⟨S4x2048x64, .f32⟩
  | 124 => ⟨S4x2048x64x1, .f32⟩
  | 125 => ⟨S4x2048x64x1, .f32⟩
  | 126 => ⟨S_, .f32⟩
  | 127 => ⟨S4x2048x64x1, .f32⟩
  | _ => ⟨S4x2048x768, .f32⟩

abbrev hbmTy0_1 (i : Nat) : BufTy := match i % 128 with
  | 0 => ⟨S4x2048x64x1, .f32⟩
  | 1 => ⟨S4x2048x64x768, .f32⟩
  | 2 => ⟨S4x2048x64x768, .f32⟩
  | 3 => ⟨S4x2048x64, .f32⟩
  | 4 => ⟨S_, .f32⟩
  | 5 => ⟨S4x2048, .f32⟩
  | 6 => ⟨S_, .f32⟩
  | 7 => ⟨S4x2048, .f32⟩
  | 8 => ⟨S4x2048, .i1⟩
  | 9 => ⟨S4x2048, .i1⟩
  | 10 => ⟨S4x2048x1, .i1⟩
  | 11 => ⟨S4x2048x64, .f32⟩
  | 12 => ⟨S4x2048x64, .f32⟩
  | 13 => ⟨S_, .f32⟩
  | 14 => ⟨S_, .f32⟩
  | 15 => ⟨S4x2048x64, .i1⟩
  | 16 => ⟨S4x2048x64, .f32⟩
  | 17 => ⟨S4x2048x64, .f32⟩
  | 18 => ⟨S768x64, .f32⟩
  | 19 => ⟨S4x2048x64, .f32⟩
  | 20 => ⟨S4x2048x64, .f32⟩
  | 21 => ⟨S4x2048x64, .f32⟩
  | 22 => ⟨S4x2048x64, .f32⟩
  | 23 => ⟨S4x2048x64, .f32⟩
  | 24 => ⟨S4x2048x64, .f32⟩
  | 25 => ⟨S32x768, .f32⟩
  | 26 => ⟨S_, .f32⟩
  | 27 => ⟨S_, .f32⟩
  | 28 => ⟨S_, .f32⟩
  | 29 => ⟨S_, .i1⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .i1⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .i1⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .i1⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S4x2048x1, .i32⟩
  | 71 => ⟨S32, .i32⟩
  | 72 => ⟨S_, .i32⟩
  | 73 => ⟨S32, .i32⟩
  | 74 => ⟨S32, .i32⟩
  | 75 => ⟨S1x1x32, .i32⟩
  | 76 => ⟨S4x2048x32, .i32⟩
  | 77 => ⟨S4x2048x32, .i32⟩
  | 78 => ⟨S4x2048x32, .i1⟩
  | 79 => ⟨S4x2048x1, .i1⟩
  | 80 => ⟨S4x2048x32, .i1⟩
  | 81 => ⟨S4x2048x32, .i1⟩
  | 82 => ⟨S4x2048x32, .f32⟩
  | 83 => ⟨S_, .f32⟩
  | 84 => ⟨S_, .f32⟩
  | 85 => ⟨S4x2048x32, .f32⟩
  | 86 => ⟨S4x2048x32, .f32⟩
  | 87 => ⟨S4x2048x32x1, .f32⟩
  | 88 => ⟨S4x2048x1x768, .f32⟩
  | 89 => ⟨S4x2048x32x768, .f32⟩
  | 90 => ⟨S4x2048x32x768, .f32⟩
  | 91 => ⟨S4x2048x32x768, .f32⟩
  | 92 => ⟨S_, .f32⟩
  | 93 => ⟨S_, .f32⟩
  | 94 => ⟨S4x2048x32x768, .f32⟩
  | 95 => ⟨S4x2048x32x768, .f32⟩
  | 96 => ⟨S32x768, .f32⟩
  | 97 => ⟨S_, .f32⟩
  | 98 => ⟨S32, .f32⟩
  | 99 => ⟨S32x1, .f32⟩
  | 100 => ⟨S32x1, .f32⟩
  | 101 => ⟨S_, .f32⟩
  | 102 => ⟨S32x1, .f32⟩
  | 103 => ⟨S32x1, .f32⟩
  | 104 => ⟨S32x768, .f32⟩
  | 105 => ⟨S32x768, .f32⟩
  | 106 => ⟨S32x768, .f32⟩
  | 107 => ⟨S32x768, .f32⟩
  | 108 => ⟨S1x1x32x768, .f32⟩
  | 109 => ⟨S4x2048x32x768, .f32⟩
  | 110 => ⟨S4x2048x32x768, .f32⟩
  | 111 => ⟨S4x2048x32x1, .f32⟩
  | 112 => ⟨S4x2048x32x1, .f32⟩
  | 113 => ⟨S4x2048x32x1, .f32⟩
  | 114 => ⟨S_, .f32⟩
  | 115 => ⟨S4x2048x32x1, .f32⟩
  | 116 => ⟨S4x2048x32x1, .f32⟩
  | 117 => ⟨S4x2048x32x768, .f32⟩
  | 118 => ⟨S4x2048x32x768, .f32⟩
  | 119 => ⟨S4x2048x32x768, .f32⟩
  | 120 => ⟨S_, .f32⟩
  | 121 => ⟨S4x2048x32, .f32⟩
  | 122 => ⟨S4x2048x32x1, .f32⟩
  | 123 => ⟨S4x2048x32x1, .f32⟩
  | 124 => ⟨S_, .f32⟩
  | 125 => ⟨S4x2048x32x1, .f32⟩
  | 126 => ⟨S4x2048x32x1, .f32⟩
  | 127 => ⟨S4x2048x32x768, .f32⟩
  | _ => ⟨S4x2048x768, .f32⟩

abbrev hbmTy0_2 (i : Nat) : BufTy := match i % 128 with
  | 0 => ⟨S4x2048x32x768, .f32⟩
  | 1 => ⟨S4x2048x32, .f32⟩
  | 2 => ⟨S_, .f32⟩
  | 3 => ⟨S4x2048, .f32⟩
  | 4 => ⟨S_, .f32⟩
  | 5 => ⟨S4x2048, .f32⟩
  | 6 => ⟨S4x2048, .i1⟩
  | 7 => ⟨S4x2048, .i1⟩
  | 8 => ⟨S4x2048x1, .i1⟩
  | 9 => ⟨S4x2048x32, .f32⟩
  | 10 => ⟨S4x2048x32, .f32⟩
  | 11 => ⟨S_, .f32⟩
  | 12 => ⟨S_, .f32⟩
  | 13 => ⟨S4x2048x32, .i1⟩
  | 14 => ⟨S4x2048x32, .f32⟩
  | 15 => ⟨S4x2048x32, .f32⟩
  | 16 => ⟨S768x32, .f32⟩
  | 17 => ⟨S4x2048x32, .f32⟩
  | 18 => ⟨S4x2048x32, .f32⟩
  | 19 => ⟨S4x2048x32, .f32⟩
  | 20 => ⟨S4x2048x32, .f32⟩
  | 21 => ⟨S4x2048x32, .f32⟩
  | 22 => ⟨S4x2048x32, .f32⟩
  | 23 => ⟨S4x2048x96, .f32⟩
  | _ => ⟨S4x2048x768, .f32⟩

abbrev hbmTy (i : Nat) : BufTy := match i / 128 with
  | 0 => hbmTy0_0 i
  | 1 => hbmTy0_1 i
  | 2 => hbmTy0_2 i
  | _ => ⟨S4x2048x768, .f32⟩

abbrev bufTy : (tb : Table) → Fin (tcTables nBuf tb) → BufTy
  | .hbm, ⟨i, _⟩ => hbmTy i
  | _, _ => ⟨S4x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_cst : Ref sig .tc := ⟨.hbm, 12, rfl⟩
abbrev main_call0_v1 : Ref sig .tc := ⟨.hbm, 13, rfl⟩
abbrev main_call0_v2 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_c : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_call1_cst : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_v11 : Ref sig .tc := ⟨.hbm, 38, rfl⟩
abbrev main_call2_cst : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_call2_v3 : Ref sig .tc := ⟨.hbm, 43, rfl⟩
abbrev main_call2_v4 : Ref sig .tc := ⟨.hbm, 44, rfl⟩
abbrev main_call2_v5 : Ref sig .tc := ⟨.hbm, 45, rfl⟩
abbrev main_call2_v6 : Ref sig .tc := ⟨.hbm, 46, rfl⟩
abbrev main_call2_v7 : Ref sig .tc := ⟨.hbm, 47, rfl⟩
abbrev main_call2_v8 : Ref sig .tc := ⟨.hbm, 48, rfl⟩
abbrev main_v12 : Ref sig .tc := ⟨.hbm, 49, rfl⟩
abbrev main_call3_cst : Ref sig .tc := ⟨.hbm, 50, rfl⟩
abbrev main_call3_v0 : Ref sig .tc := ⟨.hbm, 51, rfl⟩
abbrev main_call3_v1 : Ref sig .tc := ⟨.hbm, 52, rfl⟩
abbrev main_call3_v2 : Ref sig .tc := ⟨.hbm, 53, rfl⟩
abbrev main_call3_v3 : Ref sig .tc := ⟨.hbm, 54, rfl⟩
abbrev main_call3_v4 : Ref sig .tc := ⟨.hbm, 55, rfl⟩
abbrev main_call3_v5 : Ref sig .tc := ⟨.hbm, 56, rfl⟩
abbrev main_call3_v6 : Ref sig .tc := ⟨.hbm, 57, rfl⟩
abbrev main_call3_v7 : Ref sig .tc := ⟨.hbm, 58, rfl⟩
abbrev main_call3_v8 : Ref sig .tc := ⟨.hbm, 59, rfl⟩
abbrev main_v13 : Ref sig .tc := ⟨.hbm, 60, rfl⟩
abbrev main_call4_cst : Ref sig .tc := ⟨.hbm, 61, rfl⟩
abbrev main_call4_v0 : Ref sig .tc := ⟨.hbm, 62, rfl⟩
abbrev main_call4_v1 : Ref sig .tc := ⟨.hbm, 63, rfl⟩
abbrev main_call4_v2 : Ref sig .tc := ⟨.hbm, 64, rfl⟩
abbrev main_call4_v3 : Ref sig .tc := ⟨.hbm, 65, rfl⟩
abbrev main_call4_v4 : Ref sig .tc := ⟨.hbm, 66, rfl⟩
abbrev main_call4_v5 : Ref sig .tc := ⟨.hbm, 67, rfl⟩
abbrev main_call4_v6 : Ref sig .tc := ⟨.hbm, 68, rfl⟩
abbrev main_call4_v7 : Ref sig .tc := ⟨.hbm, 69, rfl⟩
abbrev main_call4_v8 : Ref sig .tc := ⟨.hbm, 70, rfl⟩
abbrev main_v14 : Ref sig .tc := ⟨.hbm, 71, rfl⟩
abbrev main_v15 : Ref sig .tc := ⟨.hbm, 72, rfl⟩
abbrev main_v16 : Ref sig .tc := ⟨.hbm, 73, rfl⟩
abbrev main_c_0 : Ref sig .tc := ⟨.hbm, 74, rfl⟩
abbrev main_v17 : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_call5_call0_cst : Ref sig .tc := ⟨.hbm, 85, rfl⟩
abbrev main_call5_call0_v0 : Ref sig .tc := ⟨.hbm, 86, rfl⟩
abbrev main_v27 : Ref sig .tc := ⟨.hbm, 87, rfl⟩
abbrev main_v28 : Ref sig .tc := ⟨.hbm, 88, rfl⟩
abbrev main_v29 : Ref sig .tc := ⟨.hbm, 89, rfl⟩
abbrev main_v30 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_call6_call0_cst : Ref sig .tc := ⟨.hbm, 94, rfl⟩
abbrev main_call6_call0_v0 : Ref sig .tc := ⟨.hbm, 95, rfl⟩
abbrev main_v34 : Ref sig .tc := ⟨.hbm, 96, rfl⟩
abbrev main_v35 : Ref sig .tc := ⟨.hbm, 97, rfl⟩
abbrev main_call7_v0 : Ref sig .tc := ⟨.hbm, 98, rfl⟩
abbrev main_call7_cst : Ref sig .tc := ⟨.hbm, 99, rfl⟩
abbrev main_call7_v1 : Ref sig .tc := ⟨.hbm, 100, rfl⟩
abbrev main_call7_v2 : Ref sig .tc := ⟨.hbm, 101, rfl⟩
abbrev main_v36 : Ref sig .tc := ⟨.hbm, 102, rfl⟩
abbrev main_cst_1 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev main_v40 : Ref sig .tc := ⟨.hbm, 107, rfl⟩
abbrev main_v41 : Ref sig .tc := ⟨.hbm, 108, rfl⟩
abbrev main_v42 : Ref sig .tc := ⟨.hbm, 109, rfl⟩
abbrev main_v43 : Ref sig .tc := ⟨.hbm, 110, rfl⟩
abbrev main_v44 : Ref sig .tc := ⟨.hbm, 111, rfl⟩
abbrev main_v45 : Ref sig .tc := ⟨.hbm, 112, rfl⟩
abbrev main_v46 : Ref sig .tc := ⟨.hbm, 113, rfl⟩
abbrev main_v47 : Ref sig .tc := ⟨.hbm, 114, rfl⟩
abbrev main_v48 : Ref sig .tc := ⟨.hbm, 115, rfl⟩
abbrev main_cst_2 : Ref sig .tc := ⟨.hbm, 116, rfl⟩
abbrev main_v49 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_call8_v0 : Ref sig .tc := ⟨.hbm, 121, rfl⟩
abbrev main_call8_cst : Ref sig .tc := ⟨.hbm, 122, rfl⟩
abbrev main_call8_v1 : Ref sig .tc := ⟨.hbm, 123, rfl⟩
abbrev main_call8_v2 : Ref sig .tc := ⟨.hbm, 124, rfl⟩
abbrev main_v53 : Ref sig .tc := ⟨.hbm, 125, rfl⟩
abbrev main_cst_3 : Ref sig .tc := ⟨.hbm, 126, rfl⟩
abbrev main_v54 : Ref sig .tc := ⟨.hbm, 127, rfl⟩
abbrev main_v55 : Ref sig .tc := ⟨.hbm, 128, rfl⟩
abbrev main_v56 : Ref sig .tc := ⟨.hbm, 129, rfl⟩
abbrev main_v57 : Ref sig .tc := ⟨.hbm, 130, rfl⟩
abbrev main_v58 : Ref sig .tc := ⟨.hbm, 131, rfl⟩
abbrev main_cst_4 : Ref sig .tc := ⟨.hbm, 132, rfl⟩
abbrev main_v59 : Ref sig .tc := ⟨.hbm, 133, rfl⟩
abbrev main_cst_5 : Ref sig .tc := ⟨.hbm, 134, rfl⟩
abbrev main_v60 : Ref sig .tc := ⟨.hbm, 135, rfl⟩
abbrev main_v61 : Ref sig .tc := ⟨.hbm, 136, rfl⟩
abbrev main_v62 : Ref sig .tc := ⟨.hbm, 137, rfl⟩
abbrev main_v63 : Ref sig .tc := ⟨.hbm, 138, rfl⟩
abbrev main_v64 : Ref sig .tc := ⟨.hbm, 139, rfl⟩
abbrev main_v65 : Ref sig .tc := ⟨.hbm, 140, rfl⟩
abbrev main_cst_6 : Ref sig .tc := ⟨.hbm, 141, rfl⟩
abbrev main_call9_v0 : Ref sig .tc := ⟨.hbm, 142, rfl⟩
abbrev main_call9_v1 : Ref sig .tc := ⟨.hbm, 143, rfl⟩
abbrev main_call9_v2 : Ref sig .tc := ⟨.hbm, 144, rfl⟩
abbrev main_v66 : Ref sig .tc := ⟨.hbm, 145, rfl⟩
abbrev main_v67 : Ref sig .tc := ⟨.hbm, 146, rfl⟩
abbrev main_v68 : Ref sig .tc := ⟨.hbm, 147, rfl⟩
abbrev main_v69 : Ref sig .tc := ⟨.hbm, 148, rfl⟩
abbrev main_v70 : Ref sig .tc := ⟨.hbm, 149, rfl⟩
abbrev main_v71 : Ref sig .tc := ⟨.hbm, 150, rfl⟩
abbrev main_v72 : Ref sig .tc := ⟨.hbm, 151, rfl⟩
abbrev main_v73 : Ref sig .tc := ⟨.hbm, 152, rfl⟩
abbrev main_v74 : Ref sig .tc := ⟨.hbm, 153, rfl⟩
abbrev main_call10_cst : Ref sig .tc := ⟨.hbm, 154, rfl⟩
abbrev main_call10_v0 : Ref sig .tc := ⟨.hbm, 155, rfl⟩
abbrev main_call10_v1 : Ref sig .tc := ⟨.hbm, 156, rfl⟩
abbrev main_call10_v2 : Ref sig .tc := ⟨.hbm, 157, rfl⟩
abbrev main_call10_v3 : Ref sig .tc := ⟨.hbm, 158, rfl⟩
abbrev main_call10_v4 : Ref sig .tc := ⟨.hbm, 159, rfl⟩
abbrev main_call10_v5 : Ref sig .tc := ⟨.hbm, 160, rfl⟩
abbrev main_call10_v6 : Ref sig .tc := ⟨.hbm, 161, rfl⟩
abbrev main_call10_v7 : Ref sig .tc := ⟨.hbm, 162, rfl⟩
abbrev main_call10_v8 : Ref sig .tc := ⟨.hbm, 163, rfl⟩
abbrev main_v75 : Ref sig .tc := ⟨.hbm, 164, rfl⟩
abbrev main_call11_cst : Ref sig .tc := ⟨.hbm, 165, rfl⟩
abbrev main_call11_v0 : Ref sig .tc := ⟨.hbm, 166, rfl⟩
abbrev main_call11_v1 : Ref sig .tc := ⟨.hbm, 167, rfl⟩
abbrev main_call11_v2 : Ref sig .tc := ⟨.hbm, 168, rfl⟩
abbrev main_call11_v3 : Ref sig .tc := ⟨.hbm, 169, rfl⟩
abbrev main_call11_v4 : Ref sig .tc := ⟨.hbm, 170, rfl⟩
abbrev main_call11_v5 : Ref sig .tc := ⟨.hbm, 171, rfl⟩
abbrev main_call11_v6 : Ref sig .tc := ⟨.hbm, 172, rfl⟩
abbrev main_call11_v7 : Ref sig .tc := ⟨.hbm, 173, rfl⟩
abbrev main_call11_v8 : Ref sig .tc := ⟨.hbm, 174, rfl⟩
abbrev main_v76 : Ref sig .tc := ⟨.hbm, 175, rfl⟩
abbrev main_call12_cst : Ref sig .tc := ⟨.hbm, 176, rfl⟩
abbrev main_call12_v0 : Ref sig .tc := ⟨.hbm, 177, rfl⟩
abbrev main_call12_v1 : Ref sig .tc := ⟨.hbm, 178, rfl⟩
abbrev main_call12_v2 : Ref sig .tc := ⟨.hbm, 179, rfl⟩
abbrev main_call12_v3 : Ref sig .tc := ⟨.hbm, 180, rfl⟩
abbrev main_call12_v4 : Ref sig .tc := ⟨.hbm, 181, rfl⟩
abbrev main_call12_v5 : Ref sig .tc := ⟨.hbm, 182, rfl⟩
abbrev main_call12_v6 : Ref sig .tc := ⟨.hbm, 183, rfl⟩
abbrev main_call12_v7 : Ref sig .tc := ⟨.hbm, 184, rfl⟩
abbrev main_call12_v8 : Ref sig .tc := ⟨.hbm, 185, rfl⟩
abbrev main_v77 : Ref sig .tc := ⟨.hbm, 186, rfl⟩
abbrev main_call13_cst : Ref sig .tc := ⟨.hbm, 187, rfl⟩
abbrev main_call13_v0 : Ref sig .tc := ⟨.hbm, 188, rfl⟩
abbrev main_call13_v1 : Ref sig .tc := ⟨.hbm, 189, rfl⟩
abbrev main_call13_v2 : Ref sig .tc := ⟨.hbm, 190, rfl⟩
abbrev main_call13_v3 : Ref sig .tc := ⟨.hbm, 191, rfl⟩
abbrev main_call13_v4 : Ref sig .tc := ⟨.hbm, 192, rfl⟩
abbrev main_call13_v5 : Ref sig .tc := ⟨.hbm, 193, rfl⟩
abbrev main_call13_v6 : Ref sig .tc := ⟨.hbm, 194, rfl⟩
abbrev main_call13_v7 : Ref sig .tc := ⟨.hbm, 195, rfl⟩
abbrev main_call13_v8 : Ref sig .tc := ⟨.hbm, 196, rfl⟩
abbrev main_v78 : Ref sig .tc := ⟨.hbm, 197, rfl⟩
abbrev main_v79 : Ref sig .tc := ⟨.hbm, 198, rfl⟩
abbrev main_v80 : Ref sig .tc := ⟨.hbm, 199, rfl⟩
abbrev main_c_7 : Ref sig .tc := ⟨.hbm, 200, rfl⟩
abbrev main_v81 : Ref sig .tc := ⟨.hbm, 201, rfl⟩
abbrev main_v82 : Ref sig .tc := ⟨.hbm, 202, rfl⟩
abbrev main_v83 : Ref sig .tc := ⟨.hbm, 203, rfl⟩
abbrev main_v84 : Ref sig .tc := ⟨.hbm, 204, rfl⟩
abbrev main_v85 : Ref sig .tc := ⟨.hbm, 205, rfl⟩
abbrev main_v86 : Ref sig .tc := ⟨.hbm, 206, rfl⟩
abbrev main_v87 : Ref sig .tc := ⟨.hbm, 207, rfl⟩
abbrev main_v88 : Ref sig .tc := ⟨.hbm, 208, rfl⟩
abbrev main_v89 : Ref sig .tc := ⟨.hbm, 209, rfl⟩
abbrev main_v90 : Ref sig .tc := ⟨.hbm, 210, rfl⟩
abbrev main_call14_call0_cst : Ref sig .tc := ⟨.hbm, 211, rfl⟩
abbrev main_call14_call0_v0 : Ref sig .tc := ⟨.hbm, 212, rfl⟩
abbrev main_v91 : Ref sig .tc := ⟨.hbm, 213, rfl⟩
abbrev main_v92 : Ref sig .tc := ⟨.hbm, 214, rfl⟩
abbrev main_v93 : Ref sig .tc := ⟨.hbm, 215, rfl⟩
abbrev main_v94 : Ref sig .tc := ⟨.hbm, 216, rfl⟩
abbrev main_v95 : Ref sig .tc := ⟨.hbm, 217, rfl⟩
abbrev main_v96 : Ref sig .tc := ⟨.hbm, 218, rfl⟩
abbrev main_v97 : Ref sig .tc := ⟨.hbm, 219, rfl⟩
abbrev main_call15_call0_cst : Ref sig .tc := ⟨.hbm, 220, rfl⟩
abbrev main_call15_call0_v0 : Ref sig .tc := ⟨.hbm, 221, rfl⟩
abbrev main_v98 : Ref sig .tc := ⟨.hbm, 222, rfl⟩
abbrev main_v99 : Ref sig .tc := ⟨.hbm, 223, rfl⟩
abbrev main_call16_v0 : Ref sig .tc := ⟨.hbm, 224, rfl⟩
abbrev main_call16_cst : Ref sig .tc := ⟨.hbm, 225, rfl⟩
abbrev main_call16_v1 : Ref sig .tc := ⟨.hbm, 226, rfl⟩
abbrev main_call16_v2 : Ref sig .tc := ⟨.hbm, 227, rfl⟩
abbrev main_v100 : Ref sig .tc := ⟨.hbm, 228, rfl⟩
abbrev main_cst_8 : Ref sig .tc := ⟨.hbm, 229, rfl⟩
abbrev main_v101 : Ref sig .tc := ⟨.hbm, 230, rfl⟩
abbrev main_v102 : Ref sig .tc := ⟨.hbm, 231, rfl⟩
abbrev main_v103 : Ref sig .tc := ⟨.hbm, 232, rfl⟩
abbrev main_v104 : Ref sig .tc := ⟨.hbm, 233, rfl⟩
abbrev main_v105 : Ref sig .tc := ⟨.hbm, 234, rfl⟩
abbrev main_v106 : Ref sig .tc := ⟨.hbm, 235, rfl⟩
abbrev main_v107 : Ref sig .tc := ⟨.hbm, 236, rfl⟩
abbrev main_v108 : Ref sig .tc := ⟨.hbm, 237, rfl⟩
abbrev main_v109 : Ref sig .tc := ⟨.hbm, 238, rfl⟩
abbrev main_v110 : Ref sig .tc := ⟨.hbm, 239, rfl⟩
abbrev main_v111 : Ref sig .tc := ⟨.hbm, 240, rfl⟩
abbrev main_v112 : Ref sig .tc := ⟨.hbm, 241, rfl⟩
abbrev main_cst_9 : Ref sig .tc := ⟨.hbm, 242, rfl⟩
abbrev main_v113 : Ref sig .tc := ⟨.hbm, 243, rfl⟩
abbrev main_v114 : Ref sig .tc := ⟨.hbm, 244, rfl⟩
abbrev main_v115 : Ref sig .tc := ⟨.hbm, 245, rfl⟩
abbrev main_v116 : Ref sig .tc := ⟨.hbm, 246, rfl⟩
abbrev main_call17_v0 : Ref sig .tc := ⟨.hbm, 247, rfl⟩
abbrev main_call17_cst : Ref sig .tc := ⟨.hbm, 248, rfl⟩
abbrev main_call17_v1 : Ref sig .tc := ⟨.hbm, 249, rfl⟩
abbrev main_call17_v2 : Ref sig .tc := ⟨.hbm, 250, rfl⟩
abbrev main_v117 : Ref sig .tc := ⟨.hbm, 251, rfl⟩
abbrev main_cst_10 : Ref sig .tc := ⟨.hbm, 252, rfl⟩
abbrev main_v118 : Ref sig .tc := ⟨.hbm, 253, rfl⟩
abbrev main_v119 : Ref sig .tc := ⟨.hbm, 254, rfl⟩
abbrev main_v120 : Ref sig .tc := ⟨.hbm, 255, rfl⟩
abbrev main_v121 : Ref sig .tc := ⟨.hbm, 256, rfl⟩
abbrev main_v122 : Ref sig .tc := ⟨.hbm, 257, rfl⟩
abbrev main_cst_11 : Ref sig .tc := ⟨.hbm, 258, rfl⟩
abbrev main_v123 : Ref sig .tc := ⟨.hbm, 259, rfl⟩
abbrev main_cst_12 : Ref sig .tc := ⟨.hbm, 260, rfl⟩
abbrev main_v124 : Ref sig .tc := ⟨.hbm, 261, rfl⟩
abbrev main_v125 : Ref sig .tc := ⟨.hbm, 262, rfl⟩
abbrev main_v126 : Ref sig .tc := ⟨.hbm, 263, rfl⟩
abbrev main_v127 : Ref sig .tc := ⟨.hbm, 264, rfl⟩
abbrev main_v128 : Ref sig .tc := ⟨.hbm, 265, rfl⟩
abbrev main_v129 : Ref sig .tc := ⟨.hbm, 266, rfl⟩
abbrev main_cst_13 : Ref sig .tc := ⟨.hbm, 267, rfl⟩
abbrev main_call18_v0 : Ref sig .tc := ⟨.hbm, 268, rfl⟩
abbrev main_call18_v1 : Ref sig .tc := ⟨.hbm, 269, rfl⟩
abbrev main_call18_v2 : Ref sig .tc := ⟨.hbm, 270, rfl⟩
abbrev main_v130 : Ref sig .tc := ⟨.hbm, 271, rfl⟩
abbrev main_v131 : Ref sig .tc := ⟨.hbm, 272, rfl⟩
abbrev main_v132 : Ref sig .tc := ⟨.hbm, 273, rfl⟩
abbrev main_v133 : Ref sig .tc := ⟨.hbm, 274, rfl⟩
abbrev main_v134 : Ref sig .tc := ⟨.hbm, 275, rfl⟩
abbrev main_v135 : Ref sig .tc := ⟨.hbm, 276, rfl⟩
abbrev main_v136 : Ref sig .tc := ⟨.hbm, 277, rfl⟩
abbrev main_v137 : Ref sig .tc := ⟨.hbm, 278, rfl⟩
abbrev main_v138 : Ref sig .tc := ⟨.hbm, 279, rfl⟩

abbrev nD : Nat := 1
abbrev τ : Topo := Topo.v7x

variable {F : FTy → Type} [FloatOps F]
-- ==== Proof.Chunk.lean ====
module
public import proofs.«01_k».proof.Proof.Gen.KernelIdeal.Frame
public import Idealize.ShloMosaic.Lib.Pointwise
public import Idealize.ShloMosaic.Lib.ValueIdx
public import Idealize.ShloMosaic.Lib.Pipeline.ValueKit
public import Mathlib.Tactic.NormNum
@[expose] public section

/-!
# One chunk of the row, stated once

The kernel walks a row of 2048 positions in four chunks of 512. Each chunk reads its own slice of `h`, the labels of its
positions and the tokens that follow them, the prototype table `w` and the row of running squares `sq`; it leaves an output
block, a new upper half of `w` and a new `sq`. Here that step is written once, over the first chunk's own payloads, and the
three other chunks are shown to be the same step.
-/

noncomputable section

namespace Cert.KernelIdeal.Gen

open Idealize.ShloMosaic Idealize.ShloMosaic.TcCoe Idealize.ShloMosaic.Tactic
open Idealize.SL.Sem

variable {F : FTy → Type} [FloatOps F]

/-! ## What a chunk reads of the blocks -/

/-- Row `b` of the token matrix. -/
def rowOf (x0 : Vec F S4x2048 .i32) (b : ℕ) : Vec F S1x2048 .i32 :=
  fun k => x0 (ix2 ⟨b % 4, Nat.mod_lt _ (by norm_num)⟩ (k 1))

/-- The 512 positions of `h` from `o` on. -/
def hOff (x1 : Vec F S1x2048x768 .f32) (o : ℕ) : Vec F S1x512x768 .f32 :=
  fun k => x1 (ix3 0 ⟨(o + (k 1).val) % 2048, Nat.mod_lt _ (by norm_num)⟩ (k 2))

/-- The 512 tokens of a row from position `o` on, as a column; positions wrap around. -/
def tokO (row : Vec F S1x2048 .i32) (o : ℕ) : IVec S512x1 32 :=
  fun k => row (ix2 0 ⟨(o + (k 0).val) % 2048, Nat.mod_lt _ (by norm_num)⟩)

/-- Whether a position of the chunk carries a label. -/
def labO (row : Vec F S1x2048 .i32) (o : ℕ) : IVec S512x1 1 := cmpi .eq (tokO row o) (broadcast S512x1 1#32)

/-- The embedding rows of the 96 classes. -/
def eRows (x2 : Vec F S100x768 .f32) : Vec F S96x768 .f32 :=
  fun k => x2 (ix2 ⟨(4 + (k 0).val) % 100, Nat.mod_lt _ (by norm_num)⟩ (k 1))

/-- Scalar `k` of the parameter vector. -/
def prm (x3 : Vec F S8 .f32) (k : ℕ) : Elt F .f32 := x3 (ix1 ⟨k % 8, Nat.mod_lt _ (by norm_num)⟩)

/-- The prototype table of an upper half and a lower half. -/
def stackW (A B : Vec F S96x768 .f32) : Vec F S192x768 .f32 :=
  fun k => if h : (k 0).val < 96 then A (ix2 ⟨(k 0).val, h⟩ (k 1))
    else B (ix2 ⟨(k 0).val - 96, by have : (k 0).val < 192 := (k 0).isLt; omega⟩ (k 1))

/-- The lower half of a prototype table. -/
def botW (X : Vec F S192x768 .f32) : Vec F S96x768 .f32 :=
  fun k => X (ix2 ⟨96 + (k 0).val, by have : (k 0).val < 96 := (k 0).isLt; omega⟩ (k 1))

/-! ## The step -/

/-- Whether a following token is a class at all from below. -/
def geO (nx : IVec S512x1 32) : IVec S512x1 1 := cmpi .sge nx (broadcast S512x1 4#32)

/-- The rows a chunk adds to `sq`: squared increments, supports of either group. -/
def rowsX (l : Vec F S512x512 .f32) (h : Vec F S1x512x768 .f32) (nx : IVec S512x1 32) (lab : IVec S512x1 1)
    (W : Vec F S192x768 .f32) : FVec F S512x128 .f32 :=
  k0_pay30 (k0_pay27 l (k0_pay13 h) (k0_pay15 h) (k0_pay16 h) nx lab (geO nx) W) (k0_pay28 nx lab (geO nx)) (k0_pay29 nx lab)

/-- The block of the output a chunk stores. -/
def stepOut (tau st sp : FVec F S1x96 .f32) (l : Vec F S512x512 .f32) (h : Vec F S1x512x768 .f32) (nx : IVec S512x1 32)
    (lab : IVec S512x1 1) (W : Vec F S192x768 .f32) (sq : Vec F S1x128 .f32) : FVec F S1x96x512 .f32 :=
  k0_pay31 k0_pay4 tau st sp l lab (k0_pay25 (k0_pay13 h) W) (k0_pay26 l (k0_pay13 h) (k0_pay15 h) nx lab (geO nx) W)
    (k0_pay27 l (k0_pay13 h) (k0_pay15 h) (k0_pay16 h) nx lab (geO nx) W) (k0_pay28 nx lab (geO nx)) (k0_pay29 nx lab) sq

/-- The upper half of the prototype table a chunk leaves. -/
def stepW (h : Vec F S1x512x768 .f32) (nx : IVec S512x1 32) (lab : IVec S512x1 1) (A : Vec F S96x768 .f32) : FVec F S96x768 .f32 :=
  k0_pay32 (k0_pay13 h) (k0_pay23 (k0_pay15 h) nx lab (geO nx)) A (constant S96x768 .f32 0x00000000#32)

/-- The running squares a chunk leaves. -/
def stepSq (l : Vec F S512x512 .f32) (h : Vec F S1x512x768 .f32) (nx : IVec S512x1 32) (lab : IVec S512x1 1)
    (W : Vec F S192x768 .f32) (sq : Vec F S1x128 .f32) : FVec F S1x128 .f32 :=
  k0_pay33 (rowsX l h nx lab W) sq

/-- The upper half of the table before chunk `j`. -/
def lowAt (row : Vec F S1x2048 .i32) (x1 : Vec F S1x2048x768 .f32) (w0 : Vec F S96x768 .f32) : ℕ → Vec F S96x768 .f32
  | 0 => w0
  | j + 1 => stepW (hOff x1 (512 * j)) (tokO row (512 * j + 1)) (labO row (512 * j)) (lowAt row x1 w0 j)

/-- The running squares before chunk `j`. -/
def sqAt (l : Vec F S512x512 .f32) (bot : Vec F S96x768 .f32) (row : Vec F S1x2048 .i32) (x1 : Vec F S1x2048x768 .f32)
    (w0 : Vec F S96x768 .f32) (q0 : Vec F S1x128 .f32) : ℕ → Vec F S1x128 .f32
  | 0 => q0
  | j + 1 => stepSq l (hOff x1 (512 * j)) (tokO row (512 * j + 1)) (labO row (512 * j)) (stackW (lowAt row x1 w0 j) bot)
      (sqAt l bot row x1 w0 q0 j)

/-- The table's upper half at a point's start. -/
def w0Of (x2 : Vec F S100x768 .f32) (x3 : Vec F S8 .f32) : Vec F S96x768 .f32 :=
  k0_pay11 (k0_pay10 (prm x3 4) (prm x3 5) (eRows x2))

/-- The running squares at a point's start. -/
def q0Of (x3 : Vec F S8 .f32) : Vec F S1x128 .f32 := k0_pay12 (prm x3 4) (prm x3 5)

/-- The output block chunk `j` stores. -/
def outChunk (l : Vec F S512x512 .f32) (bot : Vec F S96x768 .f32) (row : Vec F S1x2048 .i32) (x1 : Vec F S1x2048x768 .f32)
    (x2 : Vec F S100x768 .f32) (x3 : Vec F S8 .f32) (j : ℕ) : FVec F S1x96x512 .f32 :=
  stepOut (k0_pay5 (prm x3 6) (prm x3 7)) (k0_pay6 (prm x3 0) (prm x3 1)) (k0_pay7 (prm x3 2) (prm x3 3)) l
    (hOff x1 (512 * j)) (tokO row (512 * j + 1)) (labO row (512 * j)) (stackW (lowAt row x1 (w0Of x2 x3) j) bot)
    (sqAt l bot row x1 (w0Of x2 x3) (q0Of x3) j)

/-! ## The loads, as those readings -/

theorem ld_row (x0 : Vec F S4x2048 .i32) (o : ℕ) (inb) :
    View.ld x0 (Rect.unit (s := S4x2048) ![o, 0] ![1, 2048] inb) = rowOf x0 o := by
  funext k
  refine congrArg x0 (funext fun a => Fin.ext ?_)
  have h0 : o + 1 ≤ 4 := inb 0
  have hk : (k 0).val < 1 := (k 0).isLt
  match a with
  | 0 => show o + 1 * (k 0).val = o % 4; omega
  | 1 => show 0 + 1 * (k 1).val = (k 1).val; omega

theorem ld_l (X : Vec F S512x512 .f32) (inb) : View.ld X (Rect.unit (s := S512x512) ![0, 0] ![512, 512] inb) = X :=
  View.ld_unit_lit inb X (by decide)

theorem ld_h (x1 : Vec F S1x2048x768 .f32) (o : ℕ) (inb) :
    View.ld x1 (Rect.unit (s := S1x2048x768) ![0, o, 0] ![1, 512, 768] inb) = hOff x1 o := by
  funext k
  refine congrArg x1 (funext fun a => Fin.ext ?_)
  have hk : (k 0).val < 1 := (k 0).isLt
  have hk1 : (k 1).val < 512 := (k 1).isLt
  have hi : o + 512 ≤ 2048 := inb 1
  match a with
  | 0 => show 0 + 1 * (k 0).val = 0; omega
  | 1 => show o + 1 * (k 1).val = (o + (k 1).val) % 2048; omega
  | 2 => show 0 + 1 * (k 2).val = (k 2).val; omega

theorem ld_e (x2 : Vec F S100x768 .f32) (inb) :
    View.ld x2 (Rect.unit (s := S100x768) ![4, 0] ![96, 768] inb) = eRows x2 := by
  funext k
  refine congrArg x2 (funext fun a => Fin.ext ?_)
  have hk : (k 0).val < 96 := (k 0).isLt
  match a with
  | 0 => show 4 + 1 * (k 0).val = (4 + (k 0).val) % 100; omega
  | 1 => show 0 + 1 * (k 1).val = (k 1).val; omega

theorem ld_prm (x3 : Vec F S8 .f32) (k : ℕ) (inb) :
    View.ld x3 (Rect.unit (s := S8) ![k] ![1] inb) = fun _ => prm x3 k := by
  funext z
  refine congrArg x3 (funext fun a => Fin.ext ?_)
  have hz : (z 0).val < 1 := (z 0).isLt
  have hk : k + 1 ≤ 8 := inb 0
  match a with
  | 0 => show k + 1 * (z 0).val = k % 8; omega

/-! ## The other chunks are the same step -/

/-- A column cut from a row and closed by one more position is the row's positions from `o` on. -/
theorem nx_col (row : Vec F S1x2048 .i32) (o p : ℕ) (k : S512x1.Idx) (ho : o + 511 ≤ 2048) (hp : p % 2048 = (o + 511) % 2048)
    (hp' : p < 2048) (h1) (h2) (h3) (h4) :
    transpose S512x1 [1, 0] (concatenate S1x512 1 [⟨S1x511, extractStridedSlice S1x511 ![0, o] row h1⟩,
      ⟨S1x1, extractStridedSlice S1x1 ![0, p] row h2⟩] h3) h4 k = tokO row o k := by
  have hk : (k 0).val < 512 := (k 0).isLt
  pointwise
  unfold tokO
  split
  · refine congrArg row (congrArg₂ ix2 (Subsingleton.elim _ _) (Fin.ext ?_))
    simp only [Nat.zero_add]; omega
  · refine congrArg row (congrArg₂ ix2 (Subsingleton.elim _ _) (Fin.ext ?_))
    simp only; omega

theorem tok_col (row : Vec F S1x2048 .i32) (o : ℕ) (ho : o + 512 ≤ 2048) (h1) (h2) :
    transpose S512x1 [1, 0] (extractStridedSlice S1x512 ![0, o] row h1) h2 = tokO row o := by
  funext k
  have hk : (k 0).val < 512 := (k 0).isLt
  pointwise
  unfold tokO
  refine congrArg row (congrArg₂ ix2 (Subsingleton.elim _ _) (Fin.ext ?_))
  simp only; omega

theorem pay17_eq (row : Vec F S1x2048 .i32) : k0_pay17 row = tokO row 1 :=
  funext fun k => nx_col row 1 512 k (by norm_num) (by norm_num) (by norm_num) _ _ _ _
theorem pay38_eq (row : Vec F S1x2048 .i32) : k0_pay38 row = tokO row 513 :=
  funext fun k => nx_col row 513 1024 k (by norm_num) (by norm_num) (by norm_num) _ _ _ _
theorem pay60_eq (row : Vec F S1x2048 .i32) : k0_pay60 row = tokO row 1025 :=
  funext fun k => nx_col row 1025 1536 k (by norm_num) (by norm_num) (by norm_num) _ _ _ _
theorem pay83_eq (row : Vec F S1x2048 .i32) : k0_pay83 row = tokO row 1537 :=
  funext fun k => nx_col row 1537 0 k (by norm_num) (by norm_num) (by norm_num) _ _ _ _
theorem pay18_eq (row : Vec F S1x2048 .i32) : k0_pay18 row = labO row 0 :=
  congrArg (cmpi .eq · (broadcast S512x1 1#32)) (tok_col row 0 (by norm_num) _ _)
theorem pay39_eq (row : Vec F S1x2048 .i32) : k0_pay39 row = labO row 512 :=
  congrArg (cmpi .eq · (broadcast S512x1 1#32)) (tok_col row 512 (by norm_num) _ _)
theorem pay61_eq (row : Vec F S1x2048 .i32) : k0_pay61 row = labO row 1024 :=
  congrArg (cmpi .eq · (broadcast S512x1 1#32)) (tok_col row 1024 (by norm_num) _ _)
theorem pay84_eq (row : Vec F S1x2048 .i32) : k0_pay84 row = labO row 1536 :=
  congrArg (cmpi .eq · (broadcast S512x1 1#32)) (tok_col row 1536 (by norm_num) _ _)

section Folds
variable (tau st sp : FVec F S1x96 .f32) (l : Vec F S512x512 .f32) (h : Vec F S1x512x768 .f32) (row : Vec F S1x2048 .i32)
  (W : Vec F S192x768 .f32) (A : Vec F S96x768 .f32) (sq : Vec F S1x128 .f32)

theorem out0_fold : k0_pay31 k0_pay4 tau st sp l (k0_pay18 row) (k0_pay25 (k0_pay13 h) W)
    (k0_pay26 l (k0_pay13 h) (k0_pay15 h) (k0_pay17 row) (k0_pay18 row) (k0_pay19 row) W)
    (k0_pay27 l (k0_pay13 h) (k0_pay15 h) (k0_pay16 h) (k0_pay17 row) (k0_pay18 row) (k0_pay19 row) W)
    (k0_pay28 (k0_pay17 row) (k0_pay18 row) (k0_pay19 row)) (k0_pay29 (k0_pay17 row) (k0_pay18 row)) sq
    = stepOut tau st sp l h (tokO row 1) (labO row 0) W sq := by
  rw [← pay17_eq, ← pay18_eq]; rfl

theorem w0_fold : k0_pay32 (k0_pay13 h) (k0_pay23 (k0_pay15 h) (k0_pay17 row) (k0_pay18 row) (k0_pay19 row)) A
    (constant S96x768 .f32 0x00000000#32) = stepW h (tokO row 1) (labO row 0) A := by
  rw [← pay17_eq, ← pay18_eq]; rfl

theorem sq0_fold : k0_pay33 (k0_pay30 (k0_pay27 l (k0_pay13 h) (k0_pay15 h) (k0_pay16 h) (k0_pay17 row) (k0_pay18 row) (k0_pay19 row) W)
    (k0_pay28 (k0_pay17 row) (k0_pay18 row) (k0_pay19 row)) (k0_pay29 (k0_pay17 row) (k0_pay18 row))) sq
    = stepSq l h (tokO row 1) (labO row 0) W sq := by
  rw [← pay17_eq, ← pay18_eq]; rfl

theorem out1_fold : k0_pay52 k0_pay4 tau st sp (k0_pay39 row) (k0_pay47 (k0_pay34 h) W)
    (k0_pay48 l (k0_pay34 h) (k0_pay36 h) (k0_pay38 row) (k0_pay40 row) (k0_pay41 row) (k0_pay42 row) W)
    (k0_pay50 l (k0_pay34 h) (k0_pay36 h) (k0_pay37 h) (k0_pay38 row) (k0_pay40 row) (k0_pay41 row) (k0_pay42 row) W) sq
    (k0_pay51 l (k0_pay34 h) (k0_pay36 h) (k0_pay37 h) (k0_pay38 row) (k0_pay40 row) (k0_pay41 row) (k0_pay42 row) W sq)
    = stepOut tau st sp l h (tokO row 513) (labO row 512) W sq := by
  rw [← pay38_eq, ← pay39_eq]; rfl

theorem w1_fold : k0_pay53 (k0_pay34 h) (k0_pay45 (k0_pay36 h) (k0_pay38 row) (k0_pay40 row) (k0_pay41 row) (k0_pay42 row)) A
    = stepW h (tokO row 513) (labO row 512) A := by
  rw [← pay38_eq, ← pay39_eq]; rfl

theorem sq1_fold : k0_pay55 (k0_pay54 (k0_pay49 l (k0_pay34 h) (k0_pay36 h) (k0_pay37 h) (k0_pay38 row) (k0_pay40 row)
    (k0_pay41 row) (k0_pay42 row) W) sq) = stepSq l h (tokO row 513) (labO row 512) W sq := by
  rw [← pay38_eq, ← pay39_eq]; rfl

theorem out2_fold : k0_pay75 k0_pay4 tau st sp (k0_pay61 row) (k0_pay68 (k0_pay56 h) W)
    (k0_pay69 l (k0_pay56 h) (k0_pay58 h) (k0_pay64 row) (FloatOps.ofBits .f32 1065353216#32) (FloatOps.ofBits .f32 0#32) W)
    (k0_pay72 l (k0_pay56 h) (k0_pay58 h) (k0_pay59 h) (k0_pay62 row) (k0_pay63 row) (k0_pay64 row) (FloatOps.ofBits .f32 1065353216#32) (FloatOps.ofBits .f32 0#32) W sq)
    (k0_pay73 l (k0_pay56 h) (k0_pay58 h) (k0_pay59 h) (k0_pay62 row) (k0_pay63 row) (k0_pay64 row) (FloatOps.ofBits .f32 1065353216#32) (FloatOps.ofBits .f32 0#32) W sq)
    (k0_pay74 l (k0_pay56 h) (k0_pay58 h) (k0_pay59 h) (k0_pay62 row) (k0_pay63 row) (k0_pay64 row) (FloatOps.ofBits .f32 1065353216#32) (FloatOps.ofBits .f32 0#32) W sq)
    = stepOut tau st sp l h (tokO row 1025) (labO row 1024) W sq := by
  rw [← pay60_eq, ← pay61_eq]; rfl

theorem w2_fold : k0_pay76 (k0_pay56 h) (k0_pay66 (k0_pay58 h) (k0_pay64 row) (FloatOps.ofBits .f32 1065353216#32) (FloatOps.ofBits .f32 0#32)) A
    = stepW h (tokO row 1025) (labO row 1024) A := by
  rw [← pay60_eq, ← pay61_eq]; rfl

theorem sq2_fold : k0_pay77 (k0_pay70 l (k0_pay56 h) (k0_pay58 h) (k0_pay59 h) (k0_pay62 row) (k0_pay63 row) (k0_pay64 row)
    (FloatOps.ofBits .f32 1065353216#32) (FloatOps.ofBits .f32 0#32) W) sq = stepSq l h (tokO row 1025) (labO row 1024) W sq := by
  rw [← pay60_eq, ← pay61_eq]; rfl

theorem out3_fold : k0_pay1 tau st sp (k0_pay90 (k0_pay78 h) W)
    (k0_pay91 l (k0_pay78 h) (k0_pay81 (k0_pay79 h)) (k0_pay88 row (k0_pay79 h)) (k0_pay89 (k0_pay78 h) W) (constant S512x512 .f32 0x00000000#32))
    (k0_pay94 l (k0_pay78 h) (k0_pay81 (k0_pay79 h)) (k0_pay82 (k0_pay79 h)) (k0_pay85 row) (k0_pay86 row) (k0_pay87 row) (k0_pay88 row (k0_pay79 h))
      (k0_pay89 (k0_pay78 h) W) (constant S512x512 .f32 0x00000000#32) sq)
    (k0_pay95 k0_pay4 l (k0_pay78 h) (k0_pay81 (k0_pay79 h)) (k0_pay82 (k0_pay79 h)) (k0_pay85 row) (k0_pay86 row) (k0_pay87 row) (k0_pay88 row (k0_pay79 h))
      (k0_pay89 (k0_pay78 h) W) (constant S512x512 .f32 0x00000000#32) sq)
    (k0_pay96 (k0_pay84 row))
    = stepOut tau st sp l h (tokO row 1537) (labO row 1536) W sq := by
  rw [← pay83_eq, ← pay84_eq]; rfl

theorem w3_fold : k0_pay2 (k0_pay78 h) (k0_pay88 row (k0_pay79 h)) A = stepW h (tokO row 1537) (labO row 1536) A := by
  rw [← pay83_eq, ← pay84_eq]; rfl

end Folds

end Cert.KernelIdeal.Gen
-- ==== Proof.Core.lean ====
module
public import Mathlib.Analysis.SpecialFunctions.Pow.NNReal
public import Mathlib.Tactic.NormNum
public import Mathlib.Tactic.Ring
public import Mathlib.Tactic.Linarith
@[expose] public section

/-!
# Running prototype sums

The mathematics behind the two programs, over the reals: the exclusive running sum of the weighted unit vectors, its inner product
with the next unit vector and its squared length, advanced a block of positions at a time.
-/

noncomputable section

namespace Cert.Proto

open Finset

variable {D : Type} [Fintype D]

/-- Length of a vector. -/
def len (x : D → ℝ) : ℝ := √(∑ d, x d * x d)

/-- The exclusive running sum, started at `p`. -/
def sums (w : ℕ → ℝ) (u : ℕ → D → ℝ) (p : D → ℝ) (t : ℕ) (d : D) : ℝ := p d + ∑ s ∈ range t, w s * u s d

/-- The vectors scaled one by one. -/
def scaled (v : ℕ → ℝ) (U : ℕ → D → ℝ) (s : ℕ) (d : D) : ℝ := U s d * v s

/-- Terms below a bound, selected by a strict comparison. -/
theorem sum_below (f : ℕ → ℝ) {n r : ℕ} (h : r ≤ n) :
    ∑ s : Fin n, (if s.val < r then 1 else 0) * f s.val = ∑ s ∈ range r, f s := by
  rw [Fin.sum_univ_eq_sum_range (fun s => (if s < r then (1 : ℝ) else 0) * f s) n]
  simp only [ite_mul, one_mul, zero_mul]
  rw [← sum_filter]
  refine sum_congr (ext fun s => ?_) fun _ _ => rfl
  simp only [mem_filter, mem_range]
  omega

theorem sum_whole (f : ℕ → ℝ) (n : ℕ) : ∑ s : Fin n, f s.val = ∑ s ∈ range n, f s :=
  Fin.sum_univ_eq_sum_range f n

/-- A block of terms after the first `o`. -/
theorem sums_add (w : ℕ → ℝ) (u : ℕ → D → ℝ) (p : D → ℝ) (o r : ℕ) (d : D) :
    sums w u p (o + r) d = sums w u p o d + ∑ s ∈ range r, w (o + s) * u (o + s) d := by
  unfold sums
  rw [sum_range_add, add_assoc]

/-- The table's step: a block of positions enters at once. -/
theorem table_step (w v : ℕ → ℝ) (U : ℕ → D → ℝ) (p : D → ℝ) (o n : ℕ) (d : D) :
    sums w (scaled v U) p o d + ∑ s : Fin n, w (o + s.val) * v (o + s.val) * U (o + s.val) d = sums w (scaled v U) p (o + n) d := by
  rw [sums_add, sum_whole (fun s => w (o + s) * v (o + s) * U (o + s) d)]
  refine congrArg _ (sum_congr rfl fun s _ => ?_)
  unfold scaled
  ring

/-- The inner product at a position inside a block, from the table at the block's start. -/
theorem inner_step (w v : ℕ → ℝ) (U : ℕ → D → ℝ) (p : D → ℝ) (o : ℕ) {n r : ℕ} (h : r ≤ n) :
    v (o + r) * (∑ d, U (o + r) d * sums w (scaled v U) p o d
        + ∑ s : Fin n, (∑ d, U (o + r) d * U (o + s.val) d) * (if s.val < r then 1 else 0) * (w (o + s.val) * v (o + s.val)))
      = ∑ d, scaled v U (o + r) d * sums w (scaled v U) p (o + r) d := by
  have e : ∑ s : Fin n, (∑ d, U (o + r) d * U (o + s.val) d) * (if s.val < r then 1 else 0) * (w (o + s.val) * v (o + s.val))
      = ∑ s ∈ range r, (∑ d, U (o + r) d * U (o + s) d) * (w (o + s) * v (o + s)) := by
    rw [← sum_below (fun s => (∑ d, U (o + r) d * U (o + s) d) * (w (o + s) * v (o + s))) h]
    exact sum_congr rfl fun s _ => by ring
  rw [e]
  simp only [sums_add w (scaled v U) p o r, mul_add, sum_add_distrib]
  rw [mul_sum]
  refine congrArg₂ (· + ·) (sum_congr rfl fun d _ => by unfold scaled; ring) ?_
  rw [mul_sum]
  simp only [mul_sum, sum_mul]
  rw [sum_comm]
  refine sum_congr rfl fun d _ => sum_congr rfl fun s _ => ?_
  unfold scaled
  ring

/-- The squared length after one more position. -/
theorem square_succ (w : ℕ → ℝ) (u : ℕ → D → ℝ) (p : D → ℝ) (hw : ∀ s, w s * w s = w s) (t : ℕ) :
    ∑ d, sums w u p (t + 1) d * sums w u p (t + 1) d
      = ∑ d, sums w u p t d * sums w u p t d + w t * (2 * ∑ d, u t d * sums w u p t d + ∑ d, u t d * u t d) := by
  have e : ∀ d, sums w u p (t + 1) d = sums w u p t d + w t * u t d := fun d => by
    unfold sums; rw [sum_range_succ, add_assoc]
  simp only [e]
  rw [mul_sum, ← sum_add_distrib, mul_sum, ← sum_add_distrib]
  refine sum_congr rfl fun d _ => ?_
  linear_combination (u t d * u t d) * hw t

/-- The squared length after `r` more positions. -/
theorem square_add (w : ℕ → ℝ) (u : ℕ → D → ℝ) (p : D → ℝ) (hw : ∀ s, w s * w s = w s) (o : ℕ) : ∀ r : ℕ,
    ∑ d, sums w u p o d * sums w u p o d
        + ∑ s ∈ range r, w (o + s) * (2 * ∑ d, u (o + s) d * sums w u p (o + s) d + ∑ d, u (o + s) d * u (o + s) d)
      = ∑ d, sums w u p (o + r) d * sums w u p (o + r) d
  | 0 => by simp
  | r + 1 => by
    rw [sum_range_succ, ← add_assoc, square_add w u p hw o r, ← add_assoc, square_succ w u p hw (o + r)]

theorem square_self (x : D → ℝ) : len x * len x = ∑ d, x d * x d :=
  Real.mul_self_sqrt (sum_nonneg fun d _ => mul_self_nonneg (x d))

theorem len_nonneg (x : D → ℝ) : 0 ≤ len x := Real.sqrt_nonneg _

theorem len_scale (x : D → ℝ) {k : ℝ} (hk : 0 ≤ k) : len (fun d => x d * k) = len x * k := by
  unfold len
  rw [show ∑ d, x d * k * (x d * k) = (∑ d, x d * x d) * (k * k) by rw [sum_mul]; exact sum_congr rfl fun d _ => by ring,
    Real.sqrt_mul (sum_nonneg fun d _ => mul_self_nonneg (x d)), Real.sqrt_mul_self hk]

/-- A vector no shorter than the guard has length one after normalising. -/
theorem len_unit (x : D → ℝ) {e : ℝ} (he : 0 < e) (h : e ≤ len x) :
    ∑ d, x d * (1 / max (len x) e) * (x d * (1 / max (len x) e)) = 1 := by
  rw [max_eq_left h]
  have hp : len x ≠ 0 := (he.trans_le h).ne'
  have e1 : ∑ d, x d * (1 / len x) * (x d * (1 / len x)) = (∑ d, x d * x d) * (1 / len x * (1 / len x)) := by
    rw [sum_mul]; exact sum_congr rfl fun d _ => by ring
  rw [e1, ← square_self]
  field_simp

/-- The similarity with the normalised mean is the similarity with the normalised sum. -/
theorem mean_sim (x y : D → ℝ) {n e : ℝ} (hn : 0 < n) (he : 0 < e) (hx : e ≤ len x) (hm : e ≤ len fun d => x d * (1 / n)) :
    ∑ d, x d * (1 / n) * (1 / max (len fun d => x d * (1 / n)) e) * y d
      = (∑ d, y d * x d) * (1 / max (√(max (∑ d, x d * x d) 0)) e) := by
  have h0 : (0 : ℝ) ≤ ∑ d, x d * x d := sum_nonneg fun d _ => mul_self_nonneg (x d)
  rw [max_eq_left h0, show √(∑ d, x d * x d) = len x from rfl, max_eq_left hx, max_eq_left hm,
    len_scale x (one_div_nonneg.mpr hn.le), sum_mul]
  have hp : len x ≠ 0 := (he.trans_le hx).ne'
  refine sum_congr rfl fun d _ => ?_
  field_simp

end Cert.Proto
-- ==== Proof.Rows.lean ====
module
public import proofs.«01_k».proof.Proof.Chunk
public import proofs.«01_k».proof.Proof.Core
public import Idealize.ShloMosaic.PureOps.Ideal.Laws
public import Idealize.ShloMosaic.Lib.IdealHost
@[expose] public section

/-!
# The chunk over the reals

What the payloads of a chunk hold when the values of `h`, of the embedding rows and of the two priors are real: the table is
the running prototype sum, the row of squares its squared length and the counts of supports.
-/

set_option maxHeartbeats 1000000
noncomputable section

namespace Cert.KernelIdeal.Gen

open Idealize.ShloMosaic Idealize.ShloMosaic.TcCoe Idealize.ShloMosaic.Tactic
open Cert.Proto

/-! ## Reals among the extended reals -/

/-- The guard of a division by a length. -/
def eps : ℝ := 9223372 / 2 ^ 63

theorem eps_pos : 0 < eps := by unfold eps; positivity

theorem eps_bits : Ideal.ofBits .f32 0x2B8CBCCC#32 = (eps : EReal) := by
  simp [Ideal.ofBits, Ideal.ieee, -EReal.coe_mul]; norm_num [eps]

theorem two_bits : Ideal.ofBits .f32 0x40000000#32 = ((2 : ℝ) : EReal) := by
  simp [Ideal.ofBits, Ideal.ieee, -EReal.coe_mul]; norm_num

theorem one_bits : Ideal.ofBits .f32 0x3F800000#32 = ((1 : ℝ) : EReal) := by
  simp [Ideal.ofBits, Ideal.ieee, -EReal.coe_mul]; norm_num

theorem zero_bits : Ideal.ofBits .f32 0x00000000#32 = ((0 : ℝ) : EReal) := Ideal.ofBits_zero_f32

theorem coe_total {ι : Type} (s : Finset ι) (f : ι → ℝ) : ∑ i ∈ s, (f i : EReal) = ((∑ i ∈ s, f i : ℝ) : EReal) := by
  classical
  induction s using Finset.induction_on with
  | empty => simp
  | insert a s h e => rw [Finset.sum_insert h, Finset.sum_insert h, e, EReal.coe_add]

theorem coe_larger (a b : ℝ) : max (a : EReal) (b : EReal) = ((max a b : ℝ) : EReal) := (EReal.coe_strictMono.monotone.map_max).symm

theorem coe_root {a : ℝ} (h : 0 ≤ a) : Ideal.sqrt (a : EReal) = ((√a : ℝ) : EReal) := by
  rw [Ideal.sqrt_coe, if_neg (not_lt.mpr h)]

theorem coe_over (x : EReal) {y : ℝ} (h : 0 < y) : Ideal.div x (y : EReal) = x * ((1 / y : ℝ) : EReal) := Ideal.div_coe h.ne' x

theorem pick_coe {P : Prop} [Decidable P] (c : BitVec 1) (h : c = 1#1 ↔ P) (a b : ℝ) :
    Scalar.select c (a : EReal) (b : EReal) = ((if P then a else b : ℝ) : EReal) := by
  unfold Scalar.select
  by_cases hp : P
  · rw [if_pos hp]; exact if_pos (h.mpr hp)
  · rw [if_neg hp]; exact if_neg fun e => hp (h.mp e)

/-! ## Which positions support which class -/

/-- One where position `s` is labelled and the token after it is class `c`. -/
def wt (T : ℕ → BitVec 32) (c s : ℕ) : ℝ := if T s = 1#32 ∧ T (s + 1) = BitVec.ofNat 32 (4 + c) then 1 else 0

/-- One where position `s` is labelled and the token after it is a class from `lo` up to `hi`. -/
def grp (T : ℕ → BitVec 32) (lo hi : BitVec 32) (s : ℕ) : ℝ :=
  if T s = 1#32 ∧ lo.sle (T (s + 1)) = true ∧ (T (s + 1)).slt hi = true then 1 else 0

theorem wt_sq (T : ℕ → BitVec 32) (c s : ℕ) : wt T c s * wt T c s = wt T c s := by
  unfold wt; split <;> simp

theorem and_one (a b : BitVec 1) : IntOp.andi a b = 1#1 ↔ a = 1#1 ∧ b = 1#1 := by revert a b; decide
theorem or_one (a b : BitVec 1) : IntOp.ori a b = 1#1 ↔ a = 1#1 ∨ b = 1#1 := by revert a b; decide
theorem bit_one (b : Bool) : BitVec.ofBool b = 1#1 ↔ b = true := by revert b; decide

theorem grp_bit (T : ℕ → BitVec 32) (lo hi : BitVec 32) (s : ℕ) (lab nx) (hl : lab = IntOp.cmpi .eq (T s) 1#32) (hn : nx = T (s + 1)) :
    IntOp.andi (IntOp.andi lab (IntOp.cmpi .sge nx lo)) (IntOp.cmpi .slt nx hi) = 1#1
      ↔ T s = 1#32 ∧ lo.sle (T (s + 1)) = true ∧ (T (s + 1)).slt hi = true := by
  subst hl hn
  rw [and_one, and_one]
  simp only [IntOp.cmpi, bit_one, beq_iff_eq, and_assoc]

theorem class_bounds (c : Fin 96) : (((4#32).sle (BitVec.ofNat 32 (4 + c.val)) = true ∧ (BitVec.ofNat 32 (4 + c.val)).slt 68#32 = true)
      ∨ ((68#32).sle (BitVec.ofNat 32 (4 + c.val)) = true ∧ (BitVec.ofNat 32 (4 + c.val)).slt 100#32 = true)) ∧
    BitVec.ofNat 32 c.val = BitVec.ofNat 32 (4 + c.val) - 4#32 := by revert c; decide

theorem wt_bit (T : ℕ → BitVec 32) (s : ℕ) (c : Fin 96) (lab nx) (hl : lab = IntOp.cmpi .eq (T s) 1#32) (hn : nx = T (s + 1)) :
    IntOp.andi (IntOp.ori (IntOp.andi (IntOp.andi lab (IntOp.cmpi .sge nx 4#32)) (IntOp.cmpi .slt nx 68#32))
        (IntOp.andi (IntOp.andi lab (IntOp.cmpi .sge nx 68#32)) (IntOp.cmpi .slt nx 100#32)))
      (IntOp.cmpi .eq (BitVec.ofNat 32 c.val) (IntOp.subi nx 4#32)) = 1#1
      ↔ T s = 1#32 ∧ T (s + 1) = BitVec.ofNat 32 (4 + c.val) := by
  rw [and_one, or_one, grp_bit T _ _ s lab nx hl hn, grp_bit T _ _ s lab nx hl hn]
  subst hn
  simp only [IntOp.cmpi, bit_one, beq_iff_eq, IntOp.subi]
  have hc := class_bounds c
  constructor
  · rintro ⟨h, e⟩
    refine ⟨h.elim And.left And.left, ?_⟩
    rw [hc.2] at e
    have := congrArg (· + 4#32) e
    simpa using this.symm
  · rintro ⟨h, e⟩
    rw [e]
    exact ⟨hc.1.imp (fun k => ⟨h, k⟩) fun k => ⟨h, k⟩, hc.2⟩

/-! ## A vector with an infinite entry -/

theorem square_nonneg (x : EReal) : 0 ≤ x * x := by
  induction x with
  | bot => simp
  | top => simp
  | coe r => rw [← EReal.coe_mul, ← EReal.coe_zero]; exact EReal.coe_le_coe_iff.mpr (mul_self_nonneg r)

theorem squares_top {x : Fin 768 → EReal} (hx : ∃ d, x d = ⊤ ∨ x d = ⊥) : ∑ d, x d * x d = ⊤ := by
  obtain ⟨d, hd⟩ := hx
  have e : x d * x d = ⊤ := by rcases hd with hd | hd <;> rw [hd] <;> rfl
  exact top_le_iff.mp (e ▸ Finset.single_le_sum (f := fun d => x d * x d) (fun d _ => square_nonneg _) (Finset.mem_univ d))

/-- The guarded length of such a vector is infinite, and what is divided by it is zero. -/
theorem over_top {x : Fin 768 → EReal} (hx : ∃ d, x d = ⊤ ∨ x d = ⊥) (y e : EReal) :
    Ideal.div y (max (Ideal.sqrt (∑ d, x d * x d)) e) = 0 := by
  rw [squares_top hx, Ideal.sqrt_top, max_eq_left le_top]
  simp [Ideal.div]

theorem real_or (x : EReal) : x = ((x.toReal : ℝ) : EReal) ∨ x = ⊤ ∨ x = ⊥ := by
  induction x with
  | bot => exact .inr (.inr rfl)
  | top => exact .inr (.inl rfl)
  | coe r => exact .inl rfl

/-! ## A chunk's payloads -/

/-- What is known of the chunk at position `o`: a position's vector is real, or it has an infinite entry and counts as zero. -/
structure At (T : ℕ → BitVec 32) (U : ℕ → Fin 768 → ℝ) (o : ℕ) (h : Vec Ideal S1x512x768 .f32) (nx : IVec S512x1 32)
    (lab : IVec S512x1 1) : Prop where
  row : ∀ r : Fin 512, (∀ d : Fin 768, h (ix3 0 r d) = (U (o + r.val) d : EReal))
    ∨ ((∀ d, U (o + r.val) d = 0) ∧ ∃ d : Fin 768, h (ix3 0 r d) = ⊤ ∨ h (ix3 0 r d) = ⊥)
  next : ∀ r : Fin 512, nx (ix2 r 0) = T (o + r.val + 1)
  label : ∀ r : Fin 512, lab (ix2 r 0) = IntOp.cmpi .eq (T (o + r.val)) 1#32

/-- The reciprocal of a guarded length. -/
def recip (U : ℕ → Fin 768 → ℝ) (s : ℕ) : ℝ := 1 / max (len (U s)) eps

theorem guard_pos (x : ℝ) : 0 < max x eps := lt_max_of_lt_right eps_pos

section Reads
variable {T : ℕ → BitVec 32} {U : ℕ → Fin 768 → ℝ} {o : ℕ} {h : Vec Ideal S1x512x768 .f32} {nx : IVec S512x1 32}
  {lab : IVec S512x1 1} (K : At T U o h nx lab)

include K

omit K in
theorem flat_read (r : Fin 512) (d : Fin 768) : k0_pay13 h (ix2 r d) = h (ix3 0 r d) := by
  pointwise [k0_pay13]

omit K in
theorem squares_read (r : Fin 512) : k0_pay14 h (ix2 r 0) = ∑ d, h (ix3 0 r d) * h (ix3 0 r d) := by
  pointwise [k0_pay14, k0_pay13]

omit K in
theorem squares_real {r : Fin 512} (hr : ∀ d : Fin 768, h (ix3 0 r d) = (U (o + r.val) d : EReal)) :
    k0_pay14 h (ix2 r 0) = ((∑ d, U (o + r.val) d * U (o + r.val) d : ℝ) : EReal) := by
  rw [squares_read]
  simp only [hr, ← EReal.coe_mul, coe_total]

omit K in
theorem rec_real {r : Fin 512} (hr : ∀ d : Fin 768, h (ix3 0 r d) = (U (o + r.val) d : EReal)) :
    k0_pay15 h (ix2 r 0) = (recip U (o + r.val) : EReal) := by
  pointwise [k0_pay15]
  rw [squares_real hr, coe_root (Finset.sum_nonneg fun d _ => mul_self_nonneg _), eps_bits, coe_larger, coe_over _ (guard_pos _)]
  rw [one_mul]; rfl

omit K in
theorem rec_zero {r : Fin 512} (hr : ∃ d : Fin 768, h (ix3 0 r d) = ⊤ ∨ h (ix3 0 r d) = ⊥) : k0_pay15 h (ix2 r 0) = (0 : EReal) := by
  pointwise [k0_pay15]
  rw [squares_read]
  exact over_top hr _ _

omit K in
theorem scaled_zero {s : ℕ} (hU : ∀ d, U s d = 0) (d : Fin 768) : scaled (recip U) U s d = 0 := by
  unfold scaled
  rw [hU, zero_mul]

theorem unit_read (r : Fin 512) : k0_pay16 h (ix2 r 0)
    = ((∑ d, scaled (recip U) U (o + r.val) d * scaled (recip U) U (o + r.val) d : ℝ) : EReal) := by
  pointwise [k0_pay16]
  rcases K.row r with hr | ⟨hU, hr⟩
  · rw [squares_real hr, rec_real hr, ← EReal.coe_mul, ← EReal.coe_mul, Finset.sum_mul, Finset.sum_mul]
    refine congrArg _ (Finset.sum_congr rfl fun d _ => ?_)
    unfold scaled; ring
  · rw [rec_zero hr, mul_zero]
    simp only [scaled_zero hU, mul_zero, Finset.sum_const_zero, EReal.coe_zero]

theorem weight_read (r : Fin 512) (c : Fin 96) : k0_pay22 (F := Ideal) nx lab (geO nx) (ix2 r c) = (wt T c.val (o + r.val) : EReal) := by
  pointwise [k0_pay22, k0_pay20, k0_pay21, geO]
  exact pick_coe _ (wt_bit T _ c _ _ (K.label r) (K.next r)) 1 0

theorem scaledWeight_real {r : Fin 512} (hr : ∀ d : Fin 768, h (ix3 0 r d) = (U (o + r.val) d : EReal)) (c : Fin 96) :
    k0_pay23 (F := Ideal) (k0_pay15 h) nx lab (geO nx) (ix2 r c) = ((wt T c.val (o + r.val) * recip U (o + r.val) : ℝ) : EReal) := by
  pointwise [k0_pay23]
  rw [EReal.coe_mul, ← weight_read K r c, ← rec_real hr]

omit K in
theorem scaledWeight_zero {r : Fin 512} (hr : ∃ d : Fin 768, h (ix3 0 r d) = ⊤ ∨ h (ix3 0 r d) = ⊥) (c : Fin 96) :
    k0_pay23 (F := Ideal) (k0_pay15 h) nx lab (geO nx) (ix2 r c) = (0 : EReal) := by
  pointwise [k0_pay23]
  rw [rec_zero hr, mul_zero]

theorem act_read (r : Fin 512) : k0_pay28 (F := Ideal) nx lab (geO nx) (ix2 r 0) = (grp T 4#32 68#32 (o + r.val) : EReal) := by
  pointwise [k0_pay28, k0_pay20, geO]
  exact pick_coe _ (grp_bit T _ _ _ _ _ (K.label r) (K.next r)) 1 0

theorem time_read (r : Fin 512) : k0_pay29 (F := Ideal) nx lab (ix2 r 0) = (grp T 68#32 100#32 (o + r.val) : EReal) := by
  pointwise [k0_pay29, k0_pay21]
  exact pick_coe _ (grp_bit T _ _ _ _ _ (K.label r) (K.next r)) 1 0

/-- The running sum of class `c`. -/
abbrev tot (T : ℕ → BitVec 32) (U : ℕ → Fin 768 → ℝ) (p : ℕ → Fin 768 → ℝ) (c t : ℕ) : Fin 768 → ℝ :=
  sums (wt T c) (scaled (recip U) U) (p c) t

/-- The inner product of the unit vector at `t` with the running sum of class `c`. -/
abbrev dotAt (T : ℕ → BitVec 32) (U : ℕ → Fin 768 → ℝ) (p : ℕ → Fin 768 → ℝ) (c t : ℕ) : ℝ :=
  ∑ d, scaled (recip U) U t d * tot T U p c t d

/-- The squared length of the running sum of class `c`. -/
abbrev sqOf (T : ℕ → BitVec 32) (U : ℕ → Fin 768 → ℝ) (p : ℕ → Fin 768 → ℝ) (c t : ℕ) : ℝ :=
  ∑ d, tot T U p c t d * tot T U p c t d

omit K in
theorem mask_read (r s : Fin 512) : k0_pay8 (F := Ideal) (ix2 r s) = ((if s.val < r.val then 1 else 0 : ℝ) : EReal) := by
  pointwise [k0_pay8]
  refine pick_coe _ ?_ 1 0
  have hr := r.isLt
  have hs := s.isLt
  exact WordCmp.cmpi_slt_ofNat_eq_one_iff (by omega) (by omega)

omit K in
theorem tied_read (A B : Vec Ideal S96x768 .f32) (r : Fin 512) (c : Fin 96) :
    k0_pay25 (k0_pay13 h) (stackW A B) (ix2 r c) = ∑ d : Fin 768, h (ix3 0 r d) * B (ix2 c d) := by
  pointwise [k0_pay25, k0_pay24, k0_pay13]
  refine Finset.sum_congr rfl fun d _ => ?_
  unfold stackW
  refine congrArg _ ((dif_neg (by simp)).trans (congrArg B (congrArg₂ ix2 (Fin.ext (by simp)) rfl)))

section Table
variable {p : ℕ → Fin 768 → ℝ} {A B : Vec Ideal S96x768 .f32}
  (hA : ∀ (c : Fin 96) (d : Fin 768), A (ix2 c d) = (tot T U p c.val o d : EReal))

include hA

omit K in
theorem upper_read {r : Fin 512} (hr : ∀ d : Fin 768, h (ix3 0 r d) = (U (o + r.val) d : EReal)) (c : Fin 96) (hc : c.val < 192) :
    k0_pay24 (k0_pay13 h) (stackW A B) (ix2 r ⟨c.val, hc⟩) = ((∑ d, U (o + r.val) d * tot T U p c.val o d : ℝ) : EReal) := by
  pointwise [k0_pay24, k0_pay13]
  rw [← coe_total]
  refine Finset.sum_congr rfl fun d _ => ?_
  rw [hr, EReal.coe_mul, ← hA]
  exact congrArg _ (dif_pos c.isLt)

omit hA in
/-- A term of the product with the masked Gram matrix. -/
theorem gram_read {r : Fin 512} (hr : ∀ d : Fin 768, h (ix3 0 r d) = (U (o + r.val) d : EReal)) (s : Fin 512) (c : Fin 96) :
    (∑ d, k0_pay13 h (ix2 r d) * k0_pay13 h (ix2 s d)) * k0_pay8 (F := Ideal) (ix2 r s)
        * k0_pay23 (F := Ideal) (k0_pay15 h) nx lab (geO nx) (ix2 s c)
      = (((∑ d, U (o + r.val) d * U (o + s.val) d) * (if s.val < r.val then 1 else 0)
          * (wt T c.val (o + s.val) * recip U (o + s.val)) : ℝ) : EReal) := by
  rcases K.row s with hs | ⟨hU, hs⟩
  · rw [scaledWeight_real K hs]
    simp only [flat_read, hr, hs, mask_read, ← EReal.coe_mul, coe_total]
  · rw [scaledWeight_zero hs, mul_zero]
    simp only [hU, mul_zero, Finset.sum_const_zero, zero_mul, EReal.coe_zero]

theorem num_read (r : Fin 512) (c : Fin 96) :
    k0_pay26 k0_pay8 (k0_pay13 h) (k0_pay15 h) nx lab (geO nx) (stackW A B) (ix2 r c) = (dotAt T U p c.val (o + r.val) : EReal) := by
  pointwise [k0_pay26]
  rcases K.row r with hr | ⟨hU, hr⟩
  · rw [upper_read hA hr c _, rec_real hr]
    simp only [gram_read K hr, ← EReal.coe_mul, coe_total, ← EReal.coe_add]
    exact congrArg _ (inner_step (wt T c.val) (recip U) U (p c.val) o r.isLt.le)
  · rw [rec_zero hr, zero_mul]
    simp only [dotAt, scaled_zero hU, zero_mul, Finset.sum_const_zero, EReal.coe_zero]

theorem inc_read (r : Fin 512) (c : Fin 96) :
    k0_pay27 k0_pay8 (k0_pay13 h) (k0_pay15 h) (k0_pay16 h) nx lab (geO nx) (stackW A B) (ix2 r c)
      = ((wt T c.val (o + r.val) * (2 * dotAt T U p c.val (o + r.val)
          + ∑ d, scaled (recip U) U (o + r.val) d * scaled (recip U) U (o + r.val) d) : ℝ) : EReal) := by
  pointwise [k0_pay27]
  rw [weight_read K, num_read K hA, unit_read K, two_bits]
  simp only [← EReal.coe_mul, ← EReal.coe_add]

omit hA in
theorem entry_read (s : Fin 512) (c : Fin 96) (d : Fin 768) :
    k0_pay23 (F := Ideal) (k0_pay15 h) nx lab (geO nx) (ix2 s c) * h (ix3 0 s d)
      = ((wt T c.val (o + s.val) * recip U (o + s.val) * U (o + s.val) d : ℝ) : EReal) := by
  rcases K.row s with hs | ⟨hU, hs⟩
  · rw [scaledWeight_real K hs, hs, ← EReal.coe_mul]
  · rw [scaledWeight_zero hs, zero_mul, hU, mul_zero, EReal.coe_zero]

theorem table_read (c : Fin 96) (d : Fin 768) : stepW h nx lab A (ix2 c d) = (tot T U p c.val (o + 512) d : EReal) := by
  pointwise [stepW, k0_pay32, k0_pay13]
  simp only [entry_read K, hA, coe_total, ← EReal.coe_add, zero_bits]
  exact congrArg _ (table_step (wt T c.val) (recip U) U (p c.val) o 512 d)

/-! The columns of the row of squares: 96 squared lengths, then the supports of either group. -/

theorem rows_inc (r : Fin 512) (c : Fin 96) (hc : c.val < 128) : rowsX k0_pay8 h nx lab (stackW A B) (ix2 r ⟨c.val, hc⟩)
    = ((wt T c.val (o + r.val) * (2 * dotAt T U p c.val (o + r.val)
          + ∑ d, scaled (recip U) U (o + r.val) d * scaled (recip U) U (o + r.val) d) : ℝ) : EReal) := by
  rw [← inc_read K hA (B := B)]
  pointwise [rowsX, k0_pay30]

end Table

theorem rows_act (W : Vec Ideal S192x768 .f32) (r : Fin 512) (hc : 96 < 128) : rowsX k0_pay8 h nx lab W (ix2 r ⟨96, hc⟩)
    = (grp T 4#32 68#32 (o + r.val) : EReal) := by
  rw [← act_read K]
  pointwise [rowsX, k0_pay30]

theorem rows_time (W : Vec Ideal S192x768 .f32) (r : Fin 512) (hc : 97 < 128) : rowsX k0_pay8 h nx lab W (ix2 r ⟨97, hc⟩)
    = (grp T 68#32 100#32 (o + r.val) : EReal) := by
  rw [← time_read K]
  pointwise [rowsX, k0_pay30]

omit K in
theorem stepSq_read (X : FVec Ideal S512x128 .f32) (sq : Vec Ideal S1x128 .f32) (q : Fin 128) (f : ℕ → ℝ) (b : ℝ)
    (hX : ∀ r : Fin 512, X (ix2 r q) = (f r.val : EReal)) (hb : sq (ix2 0 q) = (b : EReal)) :
    k0_pay33 X sq (ix2 0 q) = ((b + ∑ s ∈ Finset.range 512, f s : ℝ) : EReal) := by
  pointwise [k0_pay33]
  simp only [hX, hb, coe_total, ← EReal.coe_add, sum_whole]

omit K in
theorem col_read (X : FVec Ideal S512x128 .f32) (sq : Vec Ideal S1x128 .f32) (q : Fin 128) (f : ℕ → ℝ) (b : ℝ)
    (hX : ∀ r : Fin 512, X (ix2 r q) = (f r.val : EReal)) (hb : sq (ix2 0 q) = (b : EReal)) (r : Fin 512) :
    sq (ix2 0 q) + ∑ x : Fin 512, k0_pay8 (F := Ideal) (ix2 r x) * X (ix2 x q) = ((b + ∑ s ∈ Finset.range r.val, f s : ℝ) : EReal) := by
  simp only [hX, hb, mask_read, ← EReal.coe_mul, coe_total, ← EReal.coe_add, sum_below _ r.isLt.le]

omit K in
theorem rows_fold (W : Vec Ideal S192x768 .f32) : k0_pay30 (k0_pay27 k0_pay8 (k0_pay13 h) (k0_pay15 h) (k0_pay16 h) nx lab (geO nx) W)
    (k0_pay28 nx lab (geO nx)) (k0_pay29 nx lab) = rowsX (k0_pay8 (F := Ideal)) h nx lab W := rfl

/-! ## The output block -/

/-- The supports of the group of class `c` before position `t`. -/
def before (T : ℕ → BitVec 32) (c t : ℕ) : ℝ :=
  if c < 64 then ∑ s ∈ Finset.range t, grp T 4#32 68#32 s else ∑ s ∈ Finset.range t, grp T 68#32 100#32 s

/-- The similarity of the unit vector at `t` with the running sum of class `c`. -/
def sim (T : ℕ → BitVec 32) (U : ℕ → Fin 768 → ℝ) (p : ℕ → Fin 768 → ℝ) (c t : ℕ) : ℝ :=
  dotAt T U p c t * (1 / max (√(max (sqOf T U p c t) 0)) eps)

/-- The two terms of the result: the tied one and, where the gate is open, the prototype's. -/
def target (tau st sp : EReal) (tied : EReal) (T : ℕ → BitVec 32) (U : ℕ → Fin 768 → ℝ) (p : ℕ → Fin 768 → ℝ) (c t : ℕ) : EReal :=
  open Classical in
  st * tied + if T t = 1#32 ∧ 0 < before T c t then sp * ((sim T U p c t : EReal) * tau) else 0

/-- What the row of squares holds before position `o`. -/
structure Squares (T : ℕ → BitVec 32) (U : ℕ → Fin 768 → ℝ) (p : ℕ → Fin 768 → ℝ) (o : ℕ) (sq : Vec Ideal S1x128 .f32) : Prop where
  len : ∀ (c : Fin 96) (hc : c.val < 128), sq (ix2 0 ⟨c.val, hc⟩) = (sqOf T U p c.val o : EReal)
  act : ∀ hc : 96 < 128, sq (ix2 0 ⟨96, hc⟩) = ((∑ s ∈ Finset.range o, grp T 4#32 68#32 s : ℝ) : EReal)
  time : ∀ hc : 97 < 128, sq (ix2 0 ⟨97, hc⟩) = ((∑ s ∈ Finset.range o, grp T 68#32 100#32 s : ℝ) : EReal)

theorem squares_step {p : ℕ → Fin 768 → ℝ} {A B : Vec Ideal S96x768 .f32} {sq : Vec Ideal S1x128 .f32}
    (hA : ∀ (c : Fin 96) (d : Fin 768), A (ix2 c d) = (tot T U p c.val o d : EReal)) (hq : Squares T U p o sq) :
    Squares T U p (o + 512) (stepSq k0_pay8 h nx lab (stackW A B) sq) where
  len c hc := (stepSq_read _ sq _ _ _ (fun r => rows_inc K hA r c hc) (hq.len c hc)).trans
    (congrArg _ (square_add (wt T c.val) (scaled (recip U) U) (p c.val) (wt_sq T c.val) o 512))
  act hc := (stepSq_read _ sq _ (fun s => grp T 4#32 68#32 (o + s)) _ (fun r => rows_act K _ r hc) (hq.act hc)).trans
    (congrArg _ (Finset.sum_range_add _ o 512).symm)
  time hc := (stepSq_read _ sq _ (fun s => grp T 68#32 100#32 (o + s)) _ (fun r => rows_time K _ r hc) (hq.time hc)).trans
    (congrArg _ (Finset.sum_range_add _ o 512).symm)

theorem out_read {p : ℕ → Fin 768 → ℝ} {A B : Vec Ideal S96x768 .f32} {sq : Vec Ideal S1x128 .f32} (tau st sp : FVec Ideal S1x96 .f32)
    (hA : ∀ (c : Fin 96) (d : Fin 768), A (ix2 c d) = (tot T U p c.val o d : EReal)) (hq : Squares T U p o sq) (r : Fin 512) (c : Fin 96) :
    stepOut tau st sp (k0_pay8 (F := Ideal)) h nx lab (stackW A B) sq (ix3 0 c r)
      = target (tau (ix2 0 c)) (st (ix2 0 c)) (sp (ix2 0 c)) (∑ d : Fin 768, h (ix3 0 r d) * B (ix2 c d)) T U p c.val
          (o + r.val) := by
  rw [← tied_read A B r c]
  unfold stepOut
  pointwise [k0_pay31, k0_pay4]
  rw [rows_fold]
  have ea := col_read _ sq 96 (fun s => grp T 4#32 68#32 (o + s)) _ (fun x => rows_act K (stackW A B) x (by norm_num)) (hq.act (by norm_num)) r
  have et := col_read _ sq 97 (fun s => grp T 68#32 100#32 (o + s)) _ (fun x => rows_time K (stackW A B) x (by norm_num)) (hq.time (by norm_num)) r
  have hc : c.val < 128 := by have := c.isLt; omega
  have el := col_read _ sq ⟨c.val, hc⟩ (fun s => wt T c.val (o + s) * (2 * dotAt T U p c.val (o + s)
    + ∑ d, scaled (recip U) U (o + s) d * scaled (recip U) U (o + s) d)) _ (fun x => rows_inc K hA (B := B) x c hc) (hq.len c hc) r
  rw [square_add (wt T c.val) (scaled (recip U) U) (p c.val) (wt_sq T c.val) o r.val] at el
  rw [← Finset.sum_range_add _ o r.val] at ea et
  rw [ea, et, el, num_read K hA, eps_bits, ← EReal.coe_zero, coe_larger, coe_root (le_max_right _ _), coe_larger,
    coe_over _ (guard_pos _), ← EReal.coe_mul, pick_coe (P := c.val < 64) _ ?_]
  · unfold target
    refine congrArg _ ?_
    unfold Scalar.select
    refine ite_congr (propext ?_) (fun _ => rfl) (fun _ => rfl)
    rw [K.label]
    refine (and_one _ _).trans (and_congr ?_ ?_)
    · simp only [IntOp.cmpi, bit_one, beq_iff_eq]
    · rw [bit_one, decide_eq_true_iff, EReal.coe_lt_coe_iff]; rfl
  · have := c.isLt
    exact WordCmp.cmpi_slt_ofNat_eq_one_iff (by omega) (by omega)

end Reads

end Cert.KernelIdeal.Gen
-- ==== Proof.Blocks.lean ====
module
public import proofs.«01_k».proof.Proof.Chunk
@[expose] public section

/-!
# What a grid point leaves

A point's output block is four chunk blocks side by side; its prototype table keeps the embedding rows in the lower half; the
strict lower triangle is written at the first point and kept.
-/

set_option maxHeartbeats 4000000
set_option maxRecDepth 100000
noncomputable section

namespace Cert.KernelIdeal.Gen

open Idealize.ShloMosaic Idealize.ShloMosaic.TcCoe Idealize.ShloMosaic.Tactic
open Idealize.SL.Sem

variable {F : FTy → Type} [FloatOps F]

/-- A point's output block: chunk `t / 512` at position `t % 512`. -/
def outVal (l : Vec F S512x512 .f32) (bot : Vec F S96x768 .f32) (row : Vec F S1x2048 .i32) (x1 : Vec F S1x2048x768 .f32)
    (x2 : Vec F S100x768 .f32) (x3 : Vec F S8 .f32) : Vec F S1x96x2048 .f32 :=
  fun k => outChunk l bot row x1 x2 x3 ((k 2).val / 512) (ix3 0 (k 1) ⟨(k 2).val % 512, Nat.mod_lt _ (by norm_num)⟩)

/-- The piece stored at position `512 j` is that block's part. -/
theorem outVal_piece (l : Vec F S512x512 .f32) (bot : Vec F S96x768 .f32) (row : Vec F S1x2048 .i32) (x1 : Vec F S1x2048x768 .f32)
    (x2 : Vec F S100x768 .f32) (x3 : Vec F S8 .f32) (j o : ℕ) (ho : o = 512 * j) (inb)
    (x : (Rect.unit (s := S1x96x2048) ![0, 0, o] ![1, 96, 512] inb).shape.Idx) :
    outChunk l bot row x1 x2 x3 j x = outVal l bot row x1 x2 x3 ((Rect.unit (s := S1x96x2048) ![0, 0, o] ![1, 96, 512] inb).emb x) := by
  subst ho
  have h0 : (x 0).val < 1 := (x 0).isLt
  have h2 : (x 2).val < 512 := (x 2).isLt
  have e2 : ((Rect.unit (s := S1x96x2048) ![0, 0, 512 * j] ![1, 96, 512] inb).emb x 2).val = 512 * j + 1 * (x 2).val := rfl
  have e1 : ((Rect.unit (s := S1x96x2048) ![0, 0, 512 * j] ![1, 96, 512] inb).emb x 1).val = 0 + 1 * (x 1).val := rfl
  unfold outVal
  rw [show ((Rect.unit (s := S1x96x2048) ![0, 0, 512 * j] ![1, 96, 512] inb).emb x 2).val / 512 = j by rw [e2]; omega]
  refine congrArg _ (funext fun a => Fin.ext ?_)
  match a with
  | 0 => show (x 0).val = 0; omega
  | 1 => show (x 1).val = ((Rect.unit (s := S1x96x2048) ![0, 0, 512 * j] ![1, 96, 512] inb).emb x 1).val; rw [e1]; omega
  | 2 => show (x 2).val = ((Rect.unit (s := S1x96x2048) ![0, 0, 512 * j] ![1, 96, 512] inb).emb x 2).val % 512; rw [e2]; omega

/-- A store over an earlier store to the same place leaves nothing of the earlier one. -/
theorem read_writes_again (v : Memref sig .tc .vmem S192x768 .f32) (f) (r : Rect S192x768) (p q : r.shape.Idx → Elt F .f32)
    (L : List (View.Piece (Elt F) S192x768 .f32)) :
    View.read (Elt F) v.view (v.view.writes (Elt F) f (⟨r, p⟩ :: ⟨r, q⟩ :: L))
      = View.read (Elt F) v.view (v.view.writes (Elt F) f (⟨r, p⟩ :: L)) := by
  funext y
  by_cases hy : y ∈ r.set
  · obtain ⟨x, rfl⟩ : ∃ x, r.emb x = y := r.exists_idx_of_mem hy
    rw [View.read_writes_cons_emb, View.read_writes_cons_emb]
  · have hy' : y ∉ Finset.univ.map r.emb := by rwa [Rect.map_emb_univ]
    rw [View.writes_cons, View.read_slice_write_of_not_mem r _ _ _ hy', View.writes_cons, View.read_slice_write_of_not_mem r _ _ _ hy',
      View.writes_cons, View.read_slice_write_of_not_mem r _ _ _ hy']

/-- The upper half's rectangle, where it lies. -/
theorem top_emb (inb) (x : (Rect.unit (s := S192x768) ![0, 0] ![96, 768] inb).shape.Idx) (a : Fin 2) :
    ((Rect.unit (s := S192x768) ![0, 0] ![96, 768] inb).emb x a).val = (x a).val := by
  match a with
  | 0 => show 0 + 1 * (x 0).val = (x 0).val; omega
  | 1 => show 0 + 1 * (x 1).val = (x 1).val; omega

theorem mem_top (inb) (y : S192x768.Idx) (h : (y 0).val < 96) :
    ∃ x, (Rect.unit (s := S192x768) ![0, 0] ![96, 768] inb).emb x = y ∧ x = ix2 ⟨(y 0).val, h⟩ (y 1) := by
  refine ⟨ix2 ⟨(y 0).val, h⟩ (y 1), funext fun a => Fin.ext ?_, rfl⟩
  rw [top_emb]
  match a with
  | 0 => rfl
  | 1 => rfl

theorem not_mem_top (inb) (y : S192x768.Idx) (h : ¬(y 0).val < 96) :
    y ∉ (Rect.unit (s := S192x768) ![0, 0] ![96, 768] inb).set := by
  intro hy
  obtain ⟨x, rfl⟩ : ∃ x, (Rect.unit (s := S192x768) ![0, 0] ![96, 768] inb).emb x = y :=
    (Rect.unit (s := S192x768) ![0, 0] ![96, 768] inb).exists_idx_of_mem hy
  exact h (by rw [top_emb inb x 0]; exact (x 0).isLt)

/-- The whole table, after its upper half was stored over contents `xs`. -/
theorem read_top (v : Memref sig .tc .vmem S192x768 .f32) (hv : v.IsWhole) (xs : Vec F S192x768 .f32) (p : Vec F S96x768 .f32) (inb) :
    View.read (Elt F) v.view (v.view.writes (Elt F) (hv.unread xs)
      [(⟨Rect.unit (s := S192x768) ![0, 0] ![96, 768] inb, p⟩ : View.Piece (Elt F) S192x768 .f32)]) = stackW p (botW xs) := by
  funext y
  unfold stackW botW
  by_cases h : (y 0).val < 96
  · obtain ⟨x, hx, hx'⟩ := mem_top inb y h
    rw [dif_pos h]
    refine Eq.trans ?_ (congrArg p hx')
    rw [← hx]
    exact View.read_writes_cons_emb ..
  · have hy' : y ∉ Finset.univ.map (Rect.unit (s := S192x768) ![0, 0] ![96, 768] inb).emb := by
      rw [Rect.map_emb_univ]; exact not_mem_top inb y h
    rw [dif_neg h, View.writes_cons, View.read_slice_write_of_not_mem _ _ _ _ hy', View.writes_nil, hv.read_unread]
    refine congrArg xs (funext fun a => Fin.ext ?_)
    match a with
    | 0 => show (y 0).val = 96 + ((y 0).val - 96); omega
    | 1 => rfl

theorem ld_w (X : Vec F S192x768 .f32) (inb) : View.ld X (Rect.unit (s := S192x768) ![0, 0] ![192, 768] inb) = X :=
  View.ld_unit_lit inb X (by decide)

/-- A load does not see a store that another to the same place has replaced. -/
theorem readCov_again (v : Memref sig .tc .vmem S192x768 .f32) (r : Rect S192x768) (p q : r.shape.Idx → Elt F .f32)
    (L : List (View.Piece (Elt F) S192x768 .f32)) (B : LoadRect S192x768) :
    v.view.readCov (⟨r, p⟩ :: ⟨r, q⟩ :: L) B = v.view.readCov (⟨r, p⟩ :: L) B := by
  rw [View.readCov_eq_canon', View.readCov_eq_canon']
  funext j
  by_cases hy : B.idx j ∈ r.set
  · obtain ⟨x, hx⟩ : ∃ x, r.emb x = B.idx j := r.exists_idx_of_mem hy
    rw [← hx, View.canon_cons_emb, View.canon_cons_emb]
  · rw [View.canon_cons_of_not_mem ⟨r, p⟩ _ hy, View.canon_cons_of_not_mem ⟨r, q⟩ _ hy, View.canon_cons_of_not_mem ⟨r, p⟩ _ hy]

/-- A store to the upper half leaves the lower half's earlier store. -/
theorem canon_top (p : Vec F S96x768 .f32) (inb) (L : List (View.Piece (Elt F) S192x768 .f32)) :
    View.canon ((⟨Rect.unit (s := S192x768) ![0, 0] ![96, 768] inb, p⟩ : View.Piece (Elt F) S192x768 .f32) :: L)
      = stackW p (botW (View.canon L)) := by
  funext y
  unfold stackW botW
  by_cases h : (y 0).val < 96
  · obtain ⟨x, hx, hx'⟩ := mem_top inb y h
    rw [dif_pos h]
    refine Eq.trans ?_ (congrArg p hx')
    rw [← hx]
    exact View.canon_cons_emb ..
  · rw [dif_neg h, View.canon_cons_of_not_mem _ _ (not_mem_top inb y h)]
    refine congrArg (View.canon L) (funext fun a => Fin.ext ?_)
    match a with
    | 0 => show (y 0).val = 96 + ((y 0).val - 96); omega
    | 1 => rfl

/-- What the store to the lower half leaves there. -/
theorem canon_bot (q : Vec F S96x768 .f32) (inb) (L : List (View.Piece (Elt F) S192x768 .f32)) :
    botW (View.canon ((⟨Rect.unit (s := S192x768) ![96, 0] ![96, 768] inb, q⟩ : View.Piece (Elt F) S192x768 .f32) :: L)) = q := by
  funext k
  unfold botW
  refine Eq.trans (congrArg _ ?_) (View.canon_cons_emb (Rect.unit (s := S192x768) ![96, 0] ![96, 768] inb) q L k)
  funext a
  refine Fin.ext ?_
  match a with
  | 0 => show 96 + (k 0).val = 96 + 1 * (k 0).val; omega
  | 1 => show (k 1).val = 0 + 1 * (k 1).val; omega

theorem botW_stackW (A B : Vec F S96x768 .f32) : botW (stackW A B) = B := by
  funext k
  unfold botW stackW
  refine (dif_neg (show ¬ (96 + (k 0).val < 96) by omega)).trans ?_
  refine congrArg B (funext fun a => Fin.ext ?_)
  match a with
  | 0 => show 96 + (k 0).val - 96 = (k 0).val; omega
  | 1 => rfl

theorem readCov_two (v : Memref sig .tc .vmem S192x768 .f32) (p q : Vec F S96x768 .f32) (inb) (inb') (inb'') :
    v.view.readCov [(⟨Rect.unit (s := S192x768) ![0, 0] ![96, 768] inb, p⟩ : View.Piece (Elt F) S192x768 .f32),
      ⟨Rect.unit (s := S192x768) ![96, 0] ![96, 768] inb', q⟩] (Rect.unit (s := S192x768) ![0, 0] ![192, 768] inb'').toLoadRect
      = stackW p q := by
  rw [View.readCov_eq_canon', canon_top, canon_bot]
  exact ld_w (stackW p q) inb''

theorem pay9_eq (q : Vec F S96x768 .f32) : k0_pay9 q = q := by
  funext k; unfold k0_pay9; pointwise

theorem row_word (i : grid0.Coords) : BitVec.toNat (Scalar.indexCast (BitVec.ofNat 32 (i 0).val)) = (i 0).val := by
  have h0 : (i 0).val < 4 := (i 0).isLt
  simp [Scalar.indexCast]; omega

theorem outB_eq (c : Dev nD) (i : grid0.Coords) (arg1 : Memref sig .tc .vmem S4x2048 .i32) (harg1 : arg1.IsWhole) (arg2 : Memref sig .tc .vmem S1x2048x768 .f32) (harg2 : arg2.IsWhole) (arg3 : Memref sig .tc .vmem S100x768 .f32) (harg3 : arg3.IsWhole) (arg4 : Memref sig .tc .smem S8 .f32) (harg4 : arg4.IsWhole) (arg5 : Memref sig .tc .vmem S1x96x2048 .f32) (harg5 : arg5.IsWhole) (arg6 : Memref sig .tc .vmem S192x768 .f32) (harg6 : arg6.IsWhole) (arg7 : Memref sig .tc .vmem S1x128 .f32) (harg7 : arg7.IsWhole) (arg8 : Memref sig .tc .vmem S512x512 .f32) (harg8 : arg8.IsWhole) (hc0 : ¬cond0_0 i) (x0 : Vec F S4x2048 .i32) (x1 : Vec F S1x2048x768 .f32) (x2 : Vec F S100x768 .f32) (x3 : Vec F S8 .f32) (xs0 : Vec F S192x768 .f32) (xs2 : Vec F S512x512 .f32) :
    out0_B_4 c i arg1 harg1 arg2 harg2 arg3 harg3 arg4 harg4 arg5 harg5 arg6 harg6 arg7 harg7 arg8 harg8 hc0 x0 x1 x2 x3 xs0 xs2 = outVal xs2 (botW xs0) (rowOf x0 (i 0).val) x1 x2 x3 := by
  unfold out0_B_4
  have hcov := cover0_B_4 c i arg1 harg1 arg2 harg2 arg3 harg3 arg4 harg4 arg5 harg5 arg6 harg6 arg7 harg7 arg8 harg8 hc0 x0 x1 x2 x3 xs0 xs2
  rw [View.read_writes_eq_canon _ _ _ hcov]
  revert hcov
  unfold kernelRun0_B
  dsimp only
  sl_unfold_words
  intro hcov
  funext y
  refine View.canon_apply_of_pieces _ _ ?_ y (hcov y)
  clear hcov
  generalize hrow : View.readAt (Elt F) arg1.view _ (harg1.unread x0) = row
  obtain rfl : row = rowOf x0 (i 0).val := by
    rw [← hrow, View.readAt_eq_ld, harg1.read_unread]
    exact (ld_row x0 _ _).trans (congrArg (rowOf x0) (row_word i))
  simp only [View.readAt_eq_ld, harg1.read_unread, harg2.read_unread, harg3.read_unread, harg4.read_unread, harg8.read_unread,
    ↓View.readCov_cons_toLoadRect, ld_row, ld_h, ld_e, ld_prm, read_writes_again, read_top, ld_l, ld_w, List.forall_mem_cons,
    List.forall_mem_nil, and_true, out0_fold, w0_fold, sq0_fold, out1_fold, w1_fold, sq1_fold, out2_fold, w2_fold, sq2_fold, out3_fold]
  rw [ld_prm x3 0, ld_prm x3 1, ld_prm x3 2, ld_prm x3 3, ld_prm x3 4, ld_prm x3 5, ld_prm x3 6, ld_prm x3 7]
  have P := outVal_piece xs2 (botW xs0) (rowOf x0 (i 0).val) x1 x2 x3
  exact ⟨P 3 1536 rfl _, P 2 1024 rfl _, P 1 512 rfl _, P 0 0 rfl _, fun _ h => absurd h List.not_mem_nil⟩

theorem outA_eq (c : Dev nD) (i : grid0.Coords) (arg1 : Memref sig .tc .vmem S4x2048 .i32) (harg1 : arg1.IsWhole) (arg2 : Memref sig .tc .vmem S1x2048x768 .f32) (harg2 : arg2.IsWhole) (arg3 : Memref sig .tc .vmem S100x768 .f32) (harg3 : arg3.IsWhole) (arg4 : Memref sig .tc .smem S8 .f32) (harg4 : arg4.IsWhole) (arg5 : Memref sig .tc .vmem S1x96x2048 .f32) (harg5 : arg5.IsWhole) (arg6 : Memref sig .tc .vmem S192x768 .f32) (harg6 : arg6.IsWhole) (arg7 : Memref sig .tc .vmem S1x128 .f32) (harg7 : arg7.IsWhole) (arg8 : Memref sig .tc .vmem S512x512 .f32) (harg8 : arg8.IsWhole) (hc0 : cond0_0 i) (x0 : Vec F S4x2048 .i32) (x1 : Vec F S1x2048x768 .f32) (x2 : Vec F S100x768 .f32) (x3 : Vec F S8 .f32) :
    out0_A_4 c i arg1 harg1 arg2 harg2 arg3 harg3 arg4 harg4 arg5 harg5 arg6 harg6 arg7 harg7 arg8 harg8 hc0 x0 x1 x2 x3 = outVal k0_pay8 (eRows x2) (rowOf x0 (i 0).val) x1 x2 x3 := by
  unfold out0_A_4
  have hcov := cover0_A_4 c i arg1 harg1 arg2 harg2 arg3 harg3 arg4 harg4 arg5 harg5 arg6 harg6 arg7 harg7 arg8 harg8 hc0 x0 x1 x2 x3
  rw [View.read_writes_eq_canon _ _ _ hcov]
  revert hcov
  unfold kernelRun0_A
  dsimp only
  sl_unfold_words
  intro hcov
  funext y
  refine View.canon_apply_of_pieces _ _ ?_ y (hcov y)
  clear hcov
  generalize hrow : View.readAt (Elt F) arg1.view _ (harg1.unread x0) = row
  obtain rfl : row = rowOf x0 (i 0).val := by
    rw [← hrow, View.readAt_eq_ld, harg1.read_unread]
    exact (ld_row x0 _ _).trans (congrArg (rowOf x0) (row_word i))
  simp only [View.readAt_eq_ld, harg1.read_unread, harg2.read_unread, harg3.read_unread, harg4.read_unread,
    ↓View.readCov_cons_toLoadRect, ld_row, ld_h, ld_e, ld_prm, ld_l, readCov_again, readCov_two, pay9_eq, List.forall_mem_cons,
    out0_fold, w0_fold, sq0_fold, out1_fold, w1_fold, sq1_fold, out2_fold, w2_fold, sq2_fold, out3_fold]
  rw [ld_prm x3 0, ld_prm x3 1, ld_prm x3 2, ld_prm x3 3, ld_prm x3 4, ld_prm x3 5, ld_prm x3 6, ld_prm x3 7]
  have P := outVal_piece k0_pay8 (eRows x2) (rowOf x0 (i 0).val) x1 x2 x3
  exact ⟨P 3 1536 rfl _, P 2 1024 rfl _, P 1 512 rfl _, P 0 0 rfl _, fun _ h => absurd h List.not_mem_nil⟩

/-- The first point leaves the embedding rows in the table's lower half. -/
theorem botA_eq (c : Dev nD) (i : grid0.Coords) (arg1 : Memref sig .tc .vmem S4x2048 .i32) (harg1 : arg1.IsWhole) (arg2 : Memref sig .tc .vmem S1x2048x768 .f32) (harg2 : arg2.IsWhole) (arg3 : Memref sig .tc .vmem S100x768 .f32) (harg3 : arg3.IsWhole) (arg4 : Memref sig .tc .smem S8 .f32) (harg4 : arg4.IsWhole) (arg5 : Memref sig .tc .vmem S1x96x2048 .f32) (harg5 : arg5.IsWhole) (arg6 : Memref sig .tc .vmem S192x768 .f32) (harg6 : arg6.IsWhole) (arg7 : Memref sig .tc .vmem S1x128 .f32) (harg7 : arg7.IsWhole) (arg8 : Memref sig .tc .vmem S512x512 .f32) (harg8 : arg8.IsWhole) (hc0 : cond0_0 i) (x0 : Vec F S4x2048 .i32) (x1 : Vec F S1x2048x768 .f32) (x2 : Vec F S100x768 .f32) (x3 : Vec F S8 .f32) :
    botW (sout0_A_0 c i arg1 harg1 arg2 harg2 arg3 harg3 arg4 harg4 arg5 harg5 arg6 harg6 arg7 harg7 arg8 harg8 hc0 x0 x1 x2 x3) = eRows x2 := by
  unfold sout0_A_0
  rw [View.read_writes_eq_canon _ _ _ (scover0_A_0 c i arg1 harg1 arg2 harg2 arg3 harg3 arg4 harg4 arg5 harg5 arg6 harg6 arg7 harg7 arg8 harg8 hc0 x0 x1 x2 x3)]
  unfold kernelRun0_A
  dsimp only
  sl_unfold_words
  refine (congrArg botW (canon_top _ _ _)).trans ((botW_stackW _ _).trans ?_)
  refine (congrArg botW (canon_top _ _ _)).trans ((botW_stackW _ _).trans ?_)
  refine (congrArg botW (canon_top _ _ _)).trans ((botW_stackW _ _).trans ?_)
  refine (congrArg botW (canon_top _ _ _)).trans ((botW_stackW _ _).trans ?_)
  refine (congrArg botW (canon_top _ _ _)).trans ((botW_stackW _ _).trans ?_)
  refine (canon_bot _ _ _).trans ?_
  rw [View.readAt_eq_ld, harg3.read_unread, pay9_eq]
  exact ld_e x2 _

/-- The first point leaves the strict lower triangle. -/
theorem maskA_eq (c : Dev nD) (i : grid0.Coords) (arg1 : Memref sig .tc .vmem S4x2048 .i32) (harg1 : arg1.IsWhole) (arg2 : Memref sig .tc .vmem S1x2048x768 .f32) (harg2 : arg2.IsWhole) (arg3 : Memref sig .tc .vmem S100x768 .f32) (harg3 : arg3.IsWhole) (arg4 : Memref sig .tc .smem S8 .f32) (harg4 : arg4.IsWhole) (arg5 : Memref sig .tc .vmem S1x96x2048 .f32) (harg5 : arg5.IsWhole) (arg6 : Memref sig .tc .vmem S192x768 .f32) (harg6 : arg6.IsWhole) (arg7 : Memref sig .tc .vmem S1x128 .f32) (harg7 : arg7.IsWhole) (arg8 : Memref sig .tc .vmem S512x512 .f32) (harg8 : arg8.IsWhole) (hc0 : cond0_0 i) (x0 : Vec F S4x2048 .i32) (x1 : Vec F S1x2048x768 .f32) (x2 : Vec F S100x768 .f32) (x3 : Vec F S8 .f32) :
    sout0_A_2 c i arg1 harg1 arg2 harg2 arg3 harg3 arg4 harg4 arg5 harg5 arg6 harg6 arg7 harg7 arg8 harg8 hc0 x0 x1 x2 x3 = k0_pay8 := by
  unfold sout0_A_2
  rw [View.read_writes_eq_canon _ _ _ (scover0_A_2 c i arg1 harg1 arg2 harg2 arg3 harg3 arg4 harg4 arg5 harg5 arg6 harg6 arg7 harg7 arg8 harg8 hc0 x0 x1 x2 x3)]
  unfold kernelRun0_A
  dsimp only
  sl_unfold_words
  exact View.canon_cons_unit_lit _ _ _ (by decide)

/-- A later point keeps the table's lower half. -/
theorem botB_eq (c : Dev nD) (i : grid0.Coords) (arg1 : Memref sig .tc .vmem S4x2048 .i32) (harg1 : arg1.IsWhole) (arg2 : Memref sig .tc .vmem S1x2048x768 .f32) (harg2 : arg2.IsWhole) (arg3 : Memref sig .tc .vmem S100x768 .f32) (harg3 : arg3.IsWhole) (arg4 : Memref sig .tc .smem S8 .f32) (harg4 : arg4.IsWhole) (arg5 : Memref sig .tc .vmem S1x96x2048 .f32) (harg5 : arg5.IsWhole) (arg6 : Memref sig .tc .vmem S192x768 .f32) (harg6 : arg6.IsWhole) (arg7 : Memref sig .tc .vmem S1x128 .f32) (harg7 : arg7.IsWhole) (arg8 : Memref sig .tc .vmem S512x512 .f32) (harg8 : arg8.IsWhole) (hc0 : ¬cond0_0 i) (x0 : Vec F S4x2048 .i32) (x1 : Vec F S1x2048x768 .f32) (x2 : Vec F S100x768 .f32) (x3 : Vec F S8 .f32) (xs0 : Vec F S192x768 .f32) (xs2 : Vec F S512x512 .f32) :
    botW (sout0_B_0 c i arg1 harg1 arg2 harg2 arg3 harg3 arg4 harg4 arg5 harg5 arg6 harg6 arg7 harg7 arg8 harg8 hc0 x0 x1 x2 x3 xs0 xs2) = botW xs0 := by
  unfold sout0_B_0
  unfold kernelRun0_B
  dsimp only
  sl_unfold_words
  rw [read_writes_again, read_writes_again, read_writes_again, read_writes_again]
  refine (congrArg botW (read_top arg6 harg6 xs0 _ _)).trans (botW_stackW _ _)

end Cert.KernelIdeal.Gen
-- ==== Proof.Value.lean ====
module
public import proofs.«01_k».proof.Proof.Blocks
public import Idealize.ShloMosaic.Lib.Pipeline.Value
@[expose] public section

/-!
# The kernel's result after the run

The carried tables are the same at every grid point, so the block a point writes depends on its batch row only. The blocks tile
the region's array, and the host transposes it.
-/

set_option maxHeartbeats 1000000
set_option maxRecDepth 100000
noncomputable section

namespace Cert.KernelIdeal.Gen

open Idealize.ShloMosaic Idealize.ShloMosaic.TcCoe Idealize.ShloMosaic.Tactic
open Idealize.SL.Sem
open Idealize.ShloMosaic.Pipeline (Dat)

variable {F : FTy → Type} [FloatOps F]
variable (m : (ℓ : Loc nD τ sig) → Buf (Elt F) ℓ) (ρ : Dev nD → PrngReg)

/-- Batch row `b` of the activations. -/
def hB (x : Vec F S4x2048x768 .f32) (b : ℕ) : Vec F S1x2048x768 .f32 :=
  fun k => x (ix3 ⟨b % 4, Nat.mod_lt _ (by norm_num)⟩ (k 1) (k 2))

/-- What the region's array holds at the end. -/
def arrVal (tok : Vec F S4x2048 .i32) (h : Vec F S4x2048x768 .f32) (e : Vec F S100x768 .f32) (p : Vec F S8 .f32) :
    Vec F S4x96x2048 .f32 :=
  fun k => outVal k0_pay8 (eRows e) (rowOf tok (k 0).val) (hB h (k 0).val) e p (ix3 0 (k 1) (k 2))

theorem coords_val (t : Fin cfg0.N) : (grid0.coords t 0).val = t.val := by
  have ht : t.val < 4 := Nat.lt_of_lt_of_eq t.isLt N_0
  have e0 : (grid0.coords t 0).val = t.val / 1 % 4 := Pipeline.Grid.coords_val t 0 (by decide) rfl
  omega

theorem index0 : ∀ t : Fin cfg0.N, win0_0.index t (0 : Fin 2) = 0 ∧ win0_0.index t (1 : Fin 2) = 0 :=
  (by decide +kernel : ∀ t : Fin grid0.N, _)
theorem index1 : ∀ t : Fin cfg0.N, win0_1.index t (0 : Fin 3) = t.val ∧ win0_1.index t (1 : Fin 3) = 0 ∧ win0_1.index t (2 : Fin 3) = 0 :=
  (by decide +kernel : ∀ t : Fin grid0.N, _)
theorem index2 : ∀ t : Fin cfg0.N, win0_2.index t (0 : Fin 2) = 0 ∧ win0_2.index t (1 : Fin 2) = 0 :=
  (by decide +kernel : ∀ t : Fin grid0.N, _)
theorem index3 : ∀ t : Fin cfg0.N, win0_3.index t (0 : Fin 1) = 0 :=
  (by decide +kernel : ∀ t : Fin grid0.N, _)
theorem index4 : ∀ t : Fin cfg0.N, win0_4.index t (0 : Fin 3) = t.val ∧ win0_4.index t (1 : Fin 3) = 0 ∧ win0_4.index t (2 : Fin 3) = 0 :=
  (by decide +kernel : ∀ t : Fin grid0.N, _)
theorem flush4 : ∀ t : Fin cfg0.N, (cfg0.win 4).flush t = true :=
  (by decide +kernel : ∀ t : Fin grid0.N, win0_4.flush t = true)

theorem blk0 (c : Dev nD) (t : Fin cfg0.N) : iblk m c 0 t = V m c main_arg2 := by
  obtain ⟨e0, e1⟩ := index0 t
  funext y
  show V m c main_arg2 (((cfg0.win 0).blk t).view.emb y) = V m c main_arg2 y
  refine congrArg _ (funext fun a => Fin.ext ?_)
  match a with
  | 0 => show win0_0.index t (0 : Fin 2) * 4 + 1 * (y 0).val = (y 0).val; omega
  | 1 => show win0_0.index t (1 : Fin 2) * 2048 + 1 * (y 1).val = (y 1).val; omega

theorem blk1 (c : Dev nD) (t : Fin cfg0.N) : iblk m c 1 t = hB (V m c main_arg0) t.val := by
  obtain ⟨e0, e1, e2⟩ := index1 t
  have ht : t.val < 4 := Nat.lt_of_lt_of_eq t.isLt N_0
  funext y
  have hy : (y 0).val < 1 := (y 0).isLt
  show V m c main_arg0 (((cfg0.win 1).blk t).view.emb y) = V m c main_arg0 (ix3 ⟨t.val % 4, _⟩ (y 1) (y 2))
  refine congrArg _ (funext fun a => Fin.ext ?_)
  match a with
  | 0 => show win0_1.index t (0 : Fin 3) * 1 + 1 * (y 0).val = t.val % 4; omega
  | 1 => show win0_1.index t (1 : Fin 3) * 2048 + 1 * (y 1).val = (y 1).val; omega
  | 2 => show win0_1.index t (2 : Fin 3) * 768 + 1 * (y 2).val = (y 2).val; omega

theorem blk2 (c : Dev nD) (t : Fin cfg0.N) : iblk m c 2 t = V m c main_arg1 := by
  obtain ⟨e0, e1⟩ := index2 t
  funext y
  show V m c main_arg1 (((cfg0.win 2).blk t).view.emb y) = V m c main_arg1 y
  refine congrArg _ (funext fun a => Fin.ext ?_)
  match a with
  | 0 => show win0_2.index t (0 : Fin 2) * 100 + 1 * (y 0).val = (y 0).val; omega
  | 1 => show win0_2.index t (1 : Fin 2) * 768 + 1 * (y 1).val = (y 1).val; omega

theorem blk3 (c : Dev nD) (t : Fin cfg0.N) : iblk m c 3 t = V m c main_v16 := by
  have e0 := index3 t
  funext y
  show V m c main_v16 (((cfg0.win 3).blk t).view.emb y) = V m c main_v16 y
  refine congrArg _ (funext fun a => Fin.ext ?_)
  match a with
  | 0 => show win0_3.index t (0 : Fin 1) * 8 + 1 * (y 0).val = (y 0).val; omega

/-- The carried tables after a point. -/
theorem carried (c : Dev nD) : ∀ (n : ℕ) (hn : n < cfg0.N),
    botW (outsAt0 m c n hn).2.1 = eRows (V m c main_arg1) ∧ (outsAt0 m c n hn).2.2 = k0_pay8
  | 0, hn => by
    rw [outsAt0_A m c ⟨0, hn⟩ rfl]
    dsimp only
    exact ⟨(botA_eq c _ _ _ _ _ _ _ _ _ _ _ _ _ _ _ _ _ _ _ _ _ _).trans (congrArg eRows (blk2 m c _)), maskA_eq c _ _ _ _ _ _ _ _ _ _ _ _ _ _ _ _ _ _ _ _ _ _⟩
  | n + 1, hn => by
    have ih := carried c n (Nat.lt_of_succ_lt hn)
    have hN : n + 1 < 4 := Nat.lt_of_lt_of_eq hn N_0
    rw [outsAt0_B m c ⟨n + 1, hn⟩ (by dsimp only; omega)]
    dsimp only
    exact ⟨(botB_eq c _ _ _ _ _ _ _ _ _ _ _ _ _ _ _ _ _ _ _ _ _ _ _ _).trans ih.1, ih.2⟩

/-- The block a point leaves. -/
theorem left (c : Dev nD) (t : Fin cfg0.N) : (outsAt0 m c t.val t.isLt).1
    = outVal k0_pay8 (eRows (V m c main_arg1)) (rowOf (V m c main_arg2) t.val) (hB (V m c main_arg0) t.val) (V m c main_arg1) (V m c main_v16) := by
  by_cases h0 : t.val % 4 = 0
  · rw [outsAt0_A m c t h0]
    dsimp only
    rw [outA_eq, blk0, blk1, blk2, blk3, coords_val]
  · obtain ⟨n, hn⟩ : ∃ n, t.val = n + 1 := ⟨t.val - 1, by omega⟩
    have ht := t.isLt
    obtain ⟨h1, h2⟩ := carried m c (t.val - 1) (by omega)
    rw [outsAt0_B m c t h0]
    dsimp only
    rw [outB_eq, blk0, blk1, blk2, blk3, coords_val, h1, h2]

theorem flushed4 (c : Dev nD) (t : Fin cfg0.N) : (dats m 0 c).flushed 4 t
    = ((cfg0.win 4).blk t).view.read (Elt F) (arrVal (V m c main_arg2) (V m c main_arg0) (V m c main_arg1) (V m c main_v16)) := by
  show (cfg0.win 4).cut (grid0.coords t) ((dats m 0 c).after 4 t) = _
  rw [after0_4, left]
  obtain ⟨e0, e1, e2⟩ := index4 t
  funext y
  have hy : (y 0).val < 1 := (y 0).isLt
  have hb : (((cfg0.win 4).blk t).view.emb y 0).val = t.val := by
    show win0_4.index t (0 : Fin 3) * 1 + 1 * (y 0).val = t.val
    omega
  show outVal _ _ _ _ _ _ ((cfg0.win 4).xinj (grid0.coords t) y) = outVal _ _ (rowOf _ (((cfg0.win 4).blk t).view.emb y 0).val) (hB _ (((cfg0.win 4).blk t).view.emb y 0).val) _ _ _
  rw [hb]
  refine congrArg _ (funext fun a => Fin.ext ?_)
  match a with
  | 0 => show (y 0).val = 0; omega
  | 1 => show (y 1).val = win0_4.index t (1 : Fin 3) * 96 + 1 * (y 1).val; omega
  | 2 => show (y 2).val = win0_4.index t (2 : Fin 3) * 2048 + 1 * (y 2).val; omega

theorem cover4 (i : S4x96x2048.Idx) : ∃ t : Fin cfg0.N, (cfg0.win 4).flush t = true ∧ i ∈ ((cfg0.win 4).blk t).view.set := by
  have hi0 : (i 0).val < 4 := (i 0).isLt
  have hi1 : (i 1).val < 96 := (i 1).isLt
  have hi2 : (i 2).val < 2048 := (i 2).isLt
  obtain ⟨t, ht⟩ : ∃ t : Fin cfg0.N, t.val = (i 0).val := ⟨⟨(i 0).val, by rw [show cfg0.N = 4 from N_0]; exact hi0⟩, rfl⟩
  obtain ⟨e0, e1, e2⟩ := index4 t
  refine ⟨t, flush4 t, ?_⟩
  show i ∈ ((View.whole main_v17).slice (win0_4.rect t)).set
  rw [View.set_slice_whole, Rect.mem_set_unit]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 96 ≤ (i 1).val ∧ (i 1).val < win0_4.index t (1 : Fin 3) * 96 + 96; omega
  | ⟨2, _⟩ => show win0_4.index t (2 : Fin 3) * 2048 ≤ (i 2).val ∧ (i 2).val < win0_4.index t (2 : Fin 3) * 2048 + 2048; omega

theorem final4 (c : Dev nD) : (dats m 0 c).arrAt 4 cfg0.N
    = arrVal (V m c main_arg2) (V m c main_arg0) (V m c main_arg1) (V m c main_v16) :=
  (dats m 0 c).arrAt_eq_of_cover 4 _ (fun t _ => flushed4 m c t) cover4

/-- The kernel's result. -/
def resVal (tok : Vec F S4x2048 .i32) (h : Vec F S4x2048x768 .f32) (e : Vec F S100x768 .f32) (p : Vec F S8 .f32) :
    Vec F S4x2048x96 .f32 :=
  transpose S4x2048x96 [0, 2, 1] (arrVal tok h e p) transposes_S4x96x2048_S4x2048x96_0_2_1

theorem tail_eq (c : Dev nD) : Pipeline.afterTail₀ cfgs (dats m) 0 (V0 m) [hostOps1] c main_v18
    = resVal (V m c main_arg2) (V m c main_arg0) (V m c main_arg1) (V m c main_v16) := by
  show StableHlo.after [StableHlo.unary main_v17 main_v18 _ _ _] _ _ = _
  rw [StableHlo.after_cons, StableHlo.after_nil, StableHlo.unary_result]
  unfold resVal
  rw [← final4]
  exact congrArg (fun X => transpose S4x2048x96 [0, 2, 1] X transposes_S4x96x2048_S4x2048x96_0_2_1)
    (Pipeline.withArrays_arr spec0 (by decide) c (V0 m c) (fun w => (dats m 0 c).arrAt w cfg0.N) 4)

/-- The host's softplus of a scalar. -/
def sp (x : Vec F S_ .f32) : Vec F S_ .f32 :=
  select (cmpf .une (subf x (constant S_ .f32 0x00000000#32)) (subf x (constant S_ .f32 0x00000000#32)))
    (addf x (constant S_ .f32 0x00000000#32))
    (addf (maximumf x (constant S_ .f32 0x00000000#32))
      (Host.log1p (Host.exp (Host.negf (Host.absf (subf x (constant S_ .f32 0x00000000#32)))))))

/-- Eight scalars laid side by side, read. -/
theorem concat8 (b0 b1 b2 b3 b4 b5 b6 b7 : Vec F S_ .f32) (k : S8.Idx) :
      concatenate S8 0 [⟨S1, broadcastInDim S1 ![] bcast_S_S1 b0⟩, ⟨S1, broadcastInDim S1 ![] bcast_S_S1 b1⟩, ⟨S1, broadcastInDim S1 ![] bcast_S_S1 b2⟩, ⟨S1, broadcastInDim S1 ![] bcast_S_S1 b3⟩, ⟨S1, broadcastInDim S1 ![] bcast_S_S1 b4⟩, ⟨S1, broadcastInDim S1 ![] bcast_S_S1 b5⟩, ⟨S1, broadcastInDim S1 ![] bcast_S_S1 b6⟩, ⟨S1, broadcastInDim S1 ![] bcast_S_S1 b7⟩] concatenates_S1_S1_S1_S1_S1_S1_S1_S1_S8_d0 k
        = (![b0, b1, b2, b3, b4, b5, b6, b7] : Fin 8 → Vec F S_ .f32) (k 0) ix0 := by
  pointwise
  generalize k 0 = a
  fin_cases a <;> rfl

/-- The eight transformed scalars, in the order the kernel takes them. -/
def parVal (a0 a1 a2 a3 a4 a5 a6 a7 : Vec F S_ .f32) : Vec F S8 .f32 := fun k =>
  (![sp a0, sp a1, sp a2, sp a3, sp a4, sp a5, sp a6, sp a7] : Fin 8 → Vec F S_ .f32) (k 0) ix0

/-- What the kernel's scalar window holds. -/
theorem par_eq (c : Dev nD) : V m c main_v16 = parVal (m ((c.tc : Thread nD τ).loc main_arg3)) (m ((c.tc : Thread nD τ).loc main_arg4))
   (m ((c.tc : Thread nD τ).loc main_arg5)) (m ((c.tc : Thread nD τ).loc main_arg6)) (m ((c.tc : Thread nD τ).loc main_arg7))
   (m ((c.tc : Thread nD τ).loc main_arg8)) (m ((c.tc : Thread nD τ).loc main_arg9)) (m ((c.tc : Thread nD τ).loc main_arg10)) := by
  show StableHlo.after _ _ _ = _
  simp only [hostOps0, hostOps0_1, hostOps0_2, hostOps0_3, hostOps0_4, hostOps0_5, hostOps0_6, hostOps0_7, hostOps0_8, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  repeat rw [show ∀ (a b : HloOp τ sig (Elt F)) (l : List (HloOp τ sig (Elt F))) W, StableHlo.after (a :: b :: l) W = StableHlo.after (b :: l) (a.result W) from fun _ _ _ _ => rfl]
  rw [StableHlo.after_cons, StableHlo.after_nil, StableHlo.nary_result]
  dsimp only
  have e (x0 x1 x2 x3 x4 x5 x6 x7 : Vec F S1 .f32) (a0 a1 a2 a3 a4 a5 a6 a7 : Vec F S_ .f32)
      (h0 : x0 = broadcastInDim S1 ![] bcast_S_S1 (sp a0)) (h1 : x1 = broadcastInDim S1 ![] bcast_S_S1 (sp a1))
      (h2 : x2 = broadcastInDim S1 ![] bcast_S_S1 (sp a2)) (h3 : x3 = broadcastInDim S1 ![] bcast_S_S1 (sp a3))
      (h4 : x4 = broadcastInDim S1 ![] bcast_S_S1 (sp a4)) (h5 : x5 = broadcastInDim S1 ![] bcast_S_S1 (sp a5))
      (h6 : x6 = broadcastInDim S1 ![] bcast_S_S1 (sp a6)) (h7 : x7 = broadcastInDim S1 ![] bcast_S_S1 (sp a7)) :
      concatenate S8 0 [⟨S1, x0⟩, ⟨S1, x1⟩, ⟨S1, x2⟩, ⟨S1, x3⟩, ⟨S1, x4⟩, ⟨S1, x5⟩, ⟨S1, x6⟩, ⟨S1, x7⟩] concatenates_S1_S1_S1_S1_S1_S1_S1_S1_S8_d0
        = parVal a0 a1 a2 a3 a4 a5 a6 a7 := by
    subst h0 h1 h2 h3 h4 h5 h6 h7
    exact funext fun k => concat8 _ _ _ _ _ _ _ _ k
  apply e <;> (after_results_simp; first | rfl | skip)

/-- The run, read: the result and the arguments. -/
theorem runRes : θ_run defs (onTc (τ := τ) (main (F := F))) ⟨m, fun _ => 0, ρ⟩ (fun r => ∀ c : Dev nD,
    r.2.mem ((c.tc : Thread nD τ).loc main_v18)
      = resVal (m ((c.tc : Thread nD τ).loc main_arg2)) (m ((c.tc : Thread nD τ).loc main_arg0)) (m ((c.tc : Thread nD τ).loc main_arg1)) (V m c main_v16)) :=
  (θ_run defs _ _).mono (fun _ h c => by
    have e := ((h c).2 main_v18 (Pipeline.mem_restRefs_of main_v18 (by decide) (by decide))).trans (tail_eq m c)
    rw [V_main_arg0, V_main_arg1, V_main_arg2] at e
    exact e) (run_main m ρ)

end Cert.KernelIdeal.Gen
-- ==== Proof.Total.lean ====
module
public import proofs.«01_k».proof.Proof.Rows
public import proofs.«01_k».proof.Proof.Value
@[expose] public section

/-!
# The result of the kernel over the reals

The chunks of a row chained: at every chunk's start the table holds the running prototype sums and the row of squares their
squared lengths, so the result at every position is the one formula of `target`.
-/

set_option maxHeartbeats 1000000
noncomputable section

namespace Cert.KernelIdeal.Gen

open Idealize.ShloMosaic Idealize.ShloMosaic.TcCoe Idealize.ShloMosaic.Tactic
open Cert.Proto

/-- Of the two scalars the one of the group of class `c`. -/
def ofGroup {α : Type} (c : ℕ) (a b : α) : α := if c < 64 then a else b

/-- Class `c`'s embedding row, over the reals. -/
def clsRow (e : Vec Ideal S100x768 .f32) (c : ℕ) (d : Fin 768) : ℝ :=
  (e (ix2 ⟨(4 + c) % 100, Nat.mod_lt _ (by norm_num)⟩ d) : EReal).toReal

/-- The start of a running sum: the class's unit embedding row times its prior. -/
def start (e : Vec Ideal S100x768 .f32) (a b : ℝ) (c : ℕ) (d : Fin 768) : ℝ :=
  ofGroup c a b * (clsRow e c d * (1 / max (len (clsRow e c)) eps))

/-- The vector at a position of row `b`; positions wrap around. -/
def entryAt (h : Vec Ideal S4x2048x768 .f32) (b : Fin 4) (s : ℕ) (d : Fin 768) : EReal :=
  h (ix3 b ⟨s % 2048, Nat.mod_lt _ (by norm_num)⟩ d)

/-- The vector at a position over the reals, zero where an entry is infinite. -/
def vecAt (h : Vec Ideal S4x2048x768 .f32) (b : Fin 4) (s : ℕ) (d : Fin 768) : ℝ :=
  open Classical in
  if ∀ d, entryAt h b s d = ((entryAt h b s d).toReal : EReal) then (entryAt h b s d).toReal else 0

theorem vecAt_cases (h : Vec Ideal S4x2048x768 .f32) (b : Fin 4) (s : ℕ) :
    (∀ d, entryAt h b s d = (vecAt h b s d : EReal))
      ∨ ((∀ d, vecAt h b s d = 0) ∧ ∃ d, entryAt h b s d = ⊤ ∨ entryAt h b s d = ⊥) := by
  by_cases hr : ∀ d, entryAt h b s d = ((entryAt h b s d).toReal : EReal)
  · exact .inl fun d => (hr d).trans (congrArg _ (if_pos hr).symm)
  · refine .inr ⟨fun d => if_neg hr, ?_⟩
    obtain ⟨d, hd⟩ := not_forall.mp hr
    exact ⟨d, (real_or _).resolve_left hd⟩

theorem entryAt_here (h : Vec Ideal S4x2048x768 .f32) (b : Fin 4) (t : Fin 2048) (d : Fin 768) : entryAt h b t.val d = h (ix3 b t d) :=
  congrArg h (congrArg (ix3 b · d) (Fin.ext (Nat.mod_eq_of_lt t.isLt)))

/-- Row `b` of the tokens; positions wrap around. -/
def tokAt (tok : Vec Ideal S4x2048 .i32) (b : Fin 4) (s : ℕ) : BitVec 32 :=
  tok (ix2 b ⟨s % 2048, Nat.mod_lt _ (by norm_num)⟩)

/-- What the embedding rows have to satisfy. -/
structure Good (e : Vec Ideal S100x768 .f32) : Prop where
  e_real : ∀ c : Fin 96, ∀ d, eRows e (ix2 c d) = (clsRow e c.val d : EReal)
  e_long : ∀ c : Fin 96, eps ≤ len (clsRow e c.val)

theorem group_pick (c : ℕ) (hc : c < 2 ^ 31) (x y : EReal) :
    Scalar.select (IntOp.cmpi .slt (BitVec.ofNat 32 c) 64#32) x y = ofGroup c x y := by
  unfold Scalar.select ofGroup
  exact ite_congr (propext (WordCmp.cmpi_slt_ofNat_eq_one_iff (by omega) (by omega))) (fun _ => rfl) fun _ => rfl

theorem ofGroup_coe (c : ℕ) (a b : ℝ) : ofGroup c (a : EReal) (b : EReal) = ((ofGroup c a b : ℝ) : EReal) := by
  unfold ofGroup; split <;> rfl

section Base
variable {h : Vec Ideal S4x2048x768 .f32} {e : Vec Ideal S100x768 .f32} {p : Vec Ideal S8 .f32} (G : Good e) {a b : ℝ}
  (ha : prm p 4 = (a : EReal)) (hb : prm p 5 = (b : EReal))
include G ha hb

theorem table_base (T : ℕ → BitVec 32) (U : ℕ → Fin 768 → ℝ) (c : Fin 96) (d : Fin 768) :
    w0Of e p (ix2 c d) = (tot T U (start e a b) c.val 0 d : EReal) := by
  have hc := c.isLt
  pointwise [w0Of, k0_pay11, k0_pay10]
  rw [ha, hb, group_pick c.val (by omega), ofGroup_coe]
  simp only [G.e_real, ← EReal.coe_mul, coe_total]
  rw [coe_root (Finset.sum_nonneg fun d _ => mul_self_nonneg _), eps_bits, coe_larger, coe_over _ (guard_pos _), ← EReal.coe_mul,
    ← EReal.coe_mul]
  unfold tot sums start len
  rw [Finset.sum_range_zero, add_zero]

theorem squares_base (T : ℕ → BitVec 32) (U : ℕ → Fin 768 → ℝ) : Squares T U (start e a b) 0 (q0Of p) where
  len c hc := by
    have hc' := c.isLt
    have e1 : sqOf T U (start e a b) c.val 0 = ofGroup c.val a b * ofGroup c.val a b := by
      unfold sqOf tot sums start
      simp only [Finset.sum_range_zero, add_zero]
      refine Eq.trans ?_ ((congrArg (ofGroup c.val a b * ofGroup c.val a b * ·) (len_unit (clsRow e c.val) eps_pos (G.e_long c))).trans
        (mul_one _))
      rw [Finset.mul_sum]
      exact Finset.sum_congr rfl fun d _ => by ring
    rw [e1]
    pointwise [q0Of, k0_pay12]
    rw [ha, hb, group_pick c.val (by omega), ofGroup_coe, ← EReal.coe_mul]
    exact if_pos (WordCmp.cmpi_slt_ofNat_eq_one_iff (by omega) (by omega) |>.mpr hc')
  act hc := by
    pointwise [q0Of, k0_pay12]
    rw [Finset.sum_range_zero]
    exact if_neg (by decide)
  time hc := by
    pointwise [q0Of, k0_pay12]
    rw [Finset.sum_range_zero]
    exact if_neg (by decide)

end Base

/-- What a chunk reads of row `b`. -/
theorem chunk_at (h : Vec Ideal S4x2048x768 .f32) (tok : Vec Ideal S4x2048 .i32) (b : Fin 4) (o : ℕ) :
    At (tokAt tok b) (vecAt h b) o (hOff (hB h b.val) o) (tokO (rowOf tok b.val) (o + 1)) (labO (rowOf tok b.val) o) where
  row r := by
    have e : ∀ d : Fin 768, hOff (hB h b.val) o (ix3 0 r d) = entryAt h b (o + r.val) d := fun d =>
      congrArg h (congrArg (ix3 · _ _) (Fin.ext (Nat.mod_eq_of_lt b.isLt)))
    simp only [e]
    exact vecAt_cases h b (o + r.val)
  next r := (congrArg tok (congrArg₂ ix2 (Fin.ext (Nat.mod_eq_of_lt b.isLt)) (Fin.ext (by
    show (o + 1 + r.val) % 2048 = (o + r.val + 1) % 2048; congr 1; omega))))
  label r := congrArg (IntOp.cmpi .eq · 1#32) (congrArg tok (congrArg (ix2 · _) (Fin.ext (Nat.mod_eq_of_lt b.isLt))))

section Chain
variable {h : Vec Ideal S4x2048x768 .f32} {e : Vec Ideal S100x768 .f32} {p : Vec Ideal S8 .f32} (G : Good e) {a b : ℝ}
  (ha : prm p 4 = (a : EReal)) (hb : prm p 5 = (b : EReal)) (tok : Vec Ideal S4x2048 .i32) (i : Fin 4)
include G ha hb

theorem table_at : ∀ (j : ℕ) (c : Fin 96) (d : Fin 768), lowAt (rowOf tok i.val) (hB h i.val) (w0Of e p) j (ix2 c d)
    = (tot (tokAt tok i) (vecAt h i) (start e a b) c.val (512 * j) d : EReal)
  | 0, c, d => table_base G ha hb _ _ c d
  | j + 1, c, d => table_read (chunk_at h tok i (512 * j)) (table_at j) c d

theorem squares_at : ∀ j : ℕ, Squares (tokAt tok i) (vecAt h i) (start e a b) (512 * j)
    (sqAt (k0_pay8 (F := Ideal)) (eRows e) (rowOf tok i.val) (hB h i.val) (w0Of e p) (q0Of p) j)
  | 0 => squares_base G ha hb _ _
  | j + 1 => squares_step (chunk_at h tok i (512 * j)) (table_at G ha hb tok i j) (squares_at j)

/-- The result at a position, as one formula. -/
theorem resVal_read (t : Fin 2048) (c : Fin 96) : resVal tok h e p (ix3 i t c)
    = target (ofGroup c.val (prm p 6) (prm p 7)) (ofGroup c.val (prm p 0) (prm p 1)) (ofGroup c.val (prm p 2) (prm p 3))
        (∑ d : Fin 768, h (ix3 i t d) * eRows e (ix2 c d)) (tokAt tok i) (vecAt h i) (start e a b) c.val t.val := by
  have hc := c.isLt
  have ht := t.isLt
  have e1 : resVal tok h e p (ix3 i t c) = outChunk k0_pay8 (eRows e) (rowOf tok i.val) (hB h i.val) e p (t.val / 512)
      (ix3 0 c ⟨t.val % 512, Nat.mod_lt _ (by norm_num)⟩) := by
    pointwise [resVal]
    rfl
  have eo : 512 * (t.val / 512) + t.val % 512 = t.val := Nat.div_add_mod _ _
  rw [e1]
  refine (out_read (chunk_at h tok i (512 * (t.val / 512))) _ _ _ (table_at G ha hb tok i _) (squares_at G ha hb tok i _) _ c).trans ?_
  have e2 : ∀ x y : EReal, Scalar.select (k0_pay4 (ix2 0 c)) x y = ofGroup c.val x y := fun x y => by
    pointwise [k0_pay4]
    exact group_pick c.val (by omega) x y
  have e3 : ∀ d, hOff (hB h i.val) (512 * (t.val / 512)) (ix3 0 ⟨t.val % 512, Nat.mod_lt _ (by norm_num)⟩ d) = h (ix3 i t d) := fun d =>
    (congrArg h (congrArg (ix3 · _ _) (Fin.ext (Nat.mod_eq_of_lt i.isLt)))).trans
      ((congrArg (fun s => entryAt h i s d) eo).trans (entryAt_here h i t d))
  show target (Scalar.select _ _ _) (Scalar.select _ _ _) (Scalar.select _ _ _) _ _ _ _ _ _ = _
  simp only [eo, e2, e3]
  rfl

end Chain

end Cert.KernelIdeal.Gen
-- ==== Proof.Running.lean ====
module
public import proofs.«01_k».proof.Proof.Rows
@[expose] public section

/-!
# A running sum read over the reals

`jnp.cumsum` along one axis prints as a sum over windows of the whole axis, padded low by one less. At an entry it is the sum of the
entries up to and with that one.
-/

noncomputable section

namespace Cert.Proto

open Idealize.ShloMosaic Cert.KernelIdeal.Gen

theorem foldl_add {ι : Type} (g : ι → EReal) : ∀ (l : List ι) (v : EReal), l.foldl (fun r n => r + g n) v = v + (l.map g).sum
  | [], v => by simp
  | a :: l, v => by rw [List.foldl_cons, foldl_add g l, List.map_cons, List.sum_cons, add_assoc]

/-- A window that ends at `j` and starts below zero holds the entries up to `j`. -/
theorem window_total (f : ℕ → ℝ) {m j : ℕ} (hj : j ≤ m) :
    ∑ k ∈ Finset.range (m + 1), (if m ≤ j + k then f (j + k - m) else 0) = ∑ k ∈ Finset.range (j + 1), f k := by
  rw [show m + 1 = (m - j) + (j + 1) by omega, Finset.sum_range_add, Finset.sum_eq_zero fun k hk => ?_, zero_add]
  · refine Finset.sum_congr rfl fun k _ => ?_
    rw [if_pos (by omega)]
    congr 1; omega
  · rw [Finset.mem_range] at hk
    exact if_neg (by omega)

/-- The running sum along axis `ax`, at an entry. -/
theorem running_read {s u : Shape} (ax : Fin s.rank) {m : ℕ} (hs : s.size ax = m + 1) (window strides lo hi : Fin s.rank → ℕ)
    (hw : window ax = m + 1) (hw1 : ∀ a, a ≠ ax → window a = 1) (hst : ∀ a, strides a = 1) (hl : lo ax = m) (hl0 : ∀ a, a ≠ ax → lo a = 0)
    (x : FVec Ideal s .f32) (init : FVec Ideal u .f32) (hi0 : ∀ k, init k = ((0 : ℝ) : EReal)) (h : s.ReduceWindows window strides lo hi s)
    (hu : 0 < u.numel) (j : s.Idx) (f : ℕ → ℝ)
    (hx : ∀ (k : ℕ) (hk : k < s.size ax), x (Function.update j ax ⟨k, hk⟩) = (f k : EReal)) :
    Host.reduceWindowAdd window strides lo hi x init h hu j = ((∑ k ∈ Finset.range ((j ax).val + 1), f k : ℝ) : EReal) := by
  have hj : (j ax).val < m + 1 := hs ▸ (j ax).isLt
  let g : (Shape.mk s.rank window).Idx → EReal := fun w =>
    ((if m ≤ (j ax).val + (w ax).val then f ((j ax).val + (w ax).val - m) else 0 : ℝ) : EReal)
  have term : ∀ w : (Shape.mk s.rank window).Idx,
      (if hin : ∀ a, lo a ≤ (j a).val * strides a + (w a).val ∧ (j a).val * strides a + (w a).val - lo a < s.size a then
        x (fun a => ⟨(j a).val * strides a + (w a).val - lo a, (hin a).2⟩) else ((0 : ℝ) : EReal)) = g w := fun w => by
    have hwv : (w ax).val < m + 1 := lt_of_lt_of_eq (w ax).isLt hw
    have hw0 : ∀ a, a ≠ ax → (w a).val = 0 := fun a ha => by have := lt_of_lt_of_eq (w a).isLt (hw1 a ha); omega
    show _ = ((if m ≤ (j ax).val + (w ax).val then f ((j ax).val + (w ax).val - m) else 0 : ℝ) : EReal)
    by_cases hm : m ≤ (j ax).val + (w ax).val
    · have hin : ∀ a, lo a ≤ (j a).val * strides a + (w a).val ∧ (j a).val * strides a + (w a).val - lo a < s.size a := fun a => by
        rw [hst a, mul_one]
        by_cases ha : a = ax
        · subst ha; rw [hl]; omega
        · rw [hl0 a ha, hw0 a ha]; have := (j a).isLt; exact ⟨Nat.zero_le _, this⟩
      have hk : (j ax).val + (w ax).val - m < s.size ax := by omega
      rw [dif_pos hin, if_pos hm, ← hx _ hk]
      refine congrArg x (funext fun a => Fin.ext ?_)
      show (j a).val * strides a + (w a).val - lo a = _
      rw [hst a, mul_one]
      by_cases ha : a = ax
      · subst ha; rw [hl, Function.update_self]
      · rw [hl0 a ha, hw0 a ha, Function.update_of_ne ha]; rfl
    · rw [if_neg hm, dif_neg]
      intro hin
      have := (hin ax).1
      rw [hst ax, mul_one, hl] at this
      exact hm this
  have step : Host.reduceWindowAdd window strides lo hi x init h hu j
      = (List.finRange (Shape.mk s.rank window).numel).foldl (fun r n => r + g ((Shape.mk s.rank window).rowMajor.symm n)) ((0 : ℝ) : EReal) := by
    show Host.reduceWindow (· + ·) window strides lo hi x (fun _ : (⟨0, ![]⟩ : Shape).Idx => init _) h (by decide) j = _
    unfold Host.reduceWindow
    simp only [hi0]
    exact congrArg (fun F => List.foldl F _ _) (funext fun r => funext fun n => congrArg (r + ·) (term _))
  have bij : Function.Bijective fun w : (Shape.mk s.rank window).Idx => (⟨(w ax).val, lt_of_lt_of_eq (w ax).isLt hw⟩ : Fin (m + 1)) := by
    constructor
    · intro w w' e
      refine funext fun a => Fin.ext ?_
      by_cases ha : a = ax
      · subst ha; exact congrArg (fun k : Fin (m + 1) => k.val) e
      · have e1 := lt_of_lt_of_eq (w a).isLt (hw1 a ha)
        have e2 := lt_of_lt_of_eq (w' a).isLt (hw1 a ha)
        omega
    · intro k
      refine ⟨fun a => ⟨if a = ax then k.val else 0, ?_⟩, Fin.ext (if_pos rfl)⟩
      show _ < window a
      by_cases ha : a = ax
      · subst ha; rw [if_pos rfl, hw]; exact k.isLt
      · rw [if_neg ha, hw1 a ha]; exact Nat.one_pos
  rw [step, foldl_add, EReal.coe_zero, zero_add, ← Fin.sum_univ_def, Equiv.sum_comp (Shape.mk s.rank window).rowMajor.symm g,
    ← window_total f (Nat.lt_succ_iff.mp hj), ← coe_total,
    ← Fin.sum_univ_eq_sum_range (fun k => ((if m ≤ (j ax).val + k then f ((j ax).val + k - m) else 0 : ℝ) : EReal)) (m + 1)]
  exact Fintype.sum_bijective _ bij _ _ fun w => rfl

end Cert.Proto
-- ==== Proof.Cells.lean ====
module
public import proofs.«01_k».proof.Proof.Total
public import proofs.«01_k».proof.Proof.Running
@[expose] public section

/-!
# The reference's cells

What one entry of the reference's arrays is over the reals, stated once for both groups of classes.
-/

set_option maxHeartbeats 1000000
noncomputable section

namespace Cert.Proto

open Idealize.ShloMosaic Cert.KernelIdeal.Gen

/-- The constant added to a mean's denominator. -/
def tiny : ℝ := 11258999 / 2 ^ 50

theorem tiny_pos : 0 < tiny := by unfold tiny; positivity

theorem tiny_bits : Ideal.ofBits .f32 0x322BCC77#32 = (tiny : EReal) := by
  simp [Ideal.ofBits, Ideal.ieee, -EReal.coe_mul]; norm_num [tiny]

/-- The denominator of class `c`'s mean at `t`. -/
def den (T : ℕ → BitVec 32) (a : ℝ) (c t : ℕ) : ℝ := ∑ s ∈ Finset.range t, wt T c s + a + tiny

theorem wt_nonneg (T : ℕ → BitVec 32) (c s : ℕ) : 0 ≤ wt T c s := by unfold wt; split <;> norm_num

theorem den_pos (T : ℕ → BitVec 32) {a : ℝ} (ha : 0 ≤ a) (c t : ℕ) : 0 < den T a c t := by
  have h := Finset.sum_nonneg fun s (_ : s ∈ Finset.range t) => wt_nonneg T c s
  have := tiny_pos
  unfold den; linarith

/-- A support as the reference marks it. -/
theorem hot_cell (T : ℕ → BitVec 32) (c s : ℕ) (x y k : BitVec 32) (hx : x = T s) (hy : y = T (s + 1)) (hk : k = BitVec.ofNat 32 (4 + c)) :
    FloatOps.uitofp (F := Ideal) .f32 (IntOp.andi (IntOp.cmpi .eq x 1#32) (IntOp.cmpi .eq y k)) = (wt T c s : EReal) := by
  subst hx hy hk
  unfold wt
  by_cases h : T s = 1#32 ∧ T (s + 1) = BitVec.ofNat 32 (4 + c)
  · rw [if_pos h, h.1, h.2]
    have e : IntOp.andi (IntOp.cmpi .eq 1#32 1#32) (IntOp.cmpi .eq (BitVec.ofNat 32 (4 + c)) (BitVec.ofNat 32 (4 + c))) = 1#1 := by
      simp [IntOp.cmpi, IntOp.andi]
    rw [e]
    show (((1#1).toNat : ℝ) : EReal) = _
    simp
  · rw [if_neg h]
    have e : IntOp.andi (IntOp.cmpi .eq (T s) 1#32) (IntOp.cmpi .eq (T (s + 1)) (BitVec.ofNat 32 (4 + c))) = 0#1 := by
      refine (by decide : ∀ b : BitVec 1, b ≠ 1#1 → b = 0#1) _ fun e => h ?_
      simpa only [and_one, IntOp.cmpi, bit_one, beq_iff_eq] using e
    rw [e]
    show (((0#1).toNat : ℝ) : EReal) = _
    simp

/-- An entry taken off its own running sum leaves the earlier ones. -/
theorem strict_cell (f : ℕ → ℝ) (t : ℕ) : ((∑ s ∈ Finset.range (t + 1), f s : ℝ) : EReal) - (f t : EReal) = ((∑ s ∈ Finset.range t, f s : ℝ) : EReal) := by
  rw [← EReal.coe_sub, Finset.sum_range_succ, add_sub_cancel_right]

theorem small_bounds (x : BitVec 32) {lo hi : ℕ} (hh : hi < 2 ^ 31) (hl : lo ≤ hi) :
    (BitVec.ofNat 32 lo).sle x = true ∧ x.slt (BitVec.ofNat 32 hi) = true ↔ lo ≤ x.toNat ∧ x.toNat < hi := by
  have hx := x.isLt
  rw [BitVec.sle_iff_toInt_le, BitVec.slt_iff_toInt_lt, BitVec.toInt_eq_toNat_cond, BitVec.toInt_eq_toNat_cond, BitVec.toInt_eq_toNat_cond,
    BitVec.toNat_ofNat, BitVec.toNat_ofNat, Nat.mod_eq_of_lt (by omega), Nat.mod_eq_of_lt (by omega)]
  split <;> split <;> split <;> omega

/-- The supports of the classes of a group, at one position. -/
theorem group_total (T : ℕ → BitVec 32) (off n : ℕ) (h : 4 + off + n < 2 ^ 31) (s : ℕ) :
    ∑ c : Fin n, wt T (off + c.val) s = grp T (BitVec.ofNat 32 (4 + off)) (BitVec.ofNat 32 (4 + off + n)) s := by
  unfold wt grp
  have hb := small_bounds (T (s + 1)) h (Nat.le_add_right (4 + off) n)
  by_cases hg : T s = 1#32 ∧ (BitVec.ofNat 32 (4 + off)).sle (T (s + 1)) = true ∧ (T (s + 1)).slt (BitVec.ofNat 32 (4 + off + n)) = true
  · rw [if_pos hg]
    have hr := hb.mp hg.2
    rw [Finset.sum_eq_single (⟨(T (s + 1)).toNat - (4 + off), by omega⟩ : Fin n)]
    · refine if_pos ⟨hg.1, BitVec.eq_of_toNat_eq ?_⟩
      rw [BitVec.toNat_ofNat, Nat.mod_eq_of_lt (by simp only; omega)]
      simp only; omega
    · intro c _ hc
      refine if_neg fun e => hc (Fin.ext ?_)
      have := congrArg BitVec.toNat e.2
      rw [BitVec.toNat_ofNat, Nat.mod_eq_of_lt (by have := c.isLt; omega)] at this
      simp only; omega
    · exact fun h => absurd (Finset.mem_univ _) h
  · rw [if_neg hg]
    refine Finset.sum_eq_zero fun c _ => if_neg fun e => hg ⟨e.1, hb.mpr ?_⟩
    have := c.isLt
    rw [e.2, BitVec.toNat_ofNat, Nat.mod_eq_of_lt (by omega)]
    omega

/-- The supports of a group before `t`. -/
theorem group_before (T : ℕ → BitVec 32) (off n : ℕ) (h : 4 + off + n < 2 ^ 31) (t : ℕ) :
    ∑ c : Fin n, ∑ s ∈ Finset.range t, wt T (off + c.val) s
      = ∑ s ∈ Finset.range t, grp T (BitVec.ofNat 32 (4 + off)) (BitVec.ofNat 32 (4 + off + n)) s := by
  rw [Finset.sum_comm]
  exact Finset.sum_congr rfl fun s _ => group_total T off n h s

/-- The normalised mean against the unit vector is the kernel's similarity. -/
theorem sim_cell (T : ℕ → BitVec 32) (U : ℕ → Fin 768 → ℝ) (p : ℕ → Fin 768 → ℝ) {a : ℝ} (ha : 0 ≤ a) (c t : ℕ) (M N : Fin 768 → EReal)
    (hM : ∀ d, M d = ((tot T U p c t d * (1 / den T a c t) : ℝ) : EReal)) (hN : ∀ d, N d = (scaled (recip U) U t d : EReal))
    (hs : eps ≤ len (tot T U p c t)) (hm : eps ≤ len fun d => tot T U p c t d * (1 / den T a c t)) :
    ∑ d, Ideal.div (M d) (max (Ideal.sqrt (∑ d, M d * M d)) (Ideal.ofBits .f32 0x2B8CBCCC#32)) * N d = (sim T U p c t : EReal) := by
  simp only [hM, hN, ← EReal.coe_mul, coe_total]
  rw [coe_root (Finset.sum_nonneg fun d _ => mul_self_nonneg _), eps_bits, coe_larger]
  simp only [coe_over _ (guard_pos _), ← EReal.coe_mul, coe_total]
  exact congrArg _ (mean_sim (tot T U p c t) (scaled (recip U) U t) (den_pos T ha c t) eps_pos hs hm)

/-- A reference cell of the running sums, from the prior and the earlier supports. -/
theorem sums_cell (T : ℕ → BitVec 32) (U : ℕ → Fin 768 → ℝ) (p : ℕ → Fin 768 → ℝ) (c t : ℕ) (d : Fin 768) (y : EReal) (hy : y = (p c d : EReal)) :
    ((∑ s ∈ Finset.range t, wt T c s * scaled (recip U) U s d : ℝ) : EReal) + y = (tot T U p c t d : EReal) := by
  rw [hy, ← EReal.coe_add, add_comm]
  rfl

theorem prior_cell (x : Vec Ideal Cert.KernelIdeal.S100x768 .f32) (a b k : ℝ) (c : ℕ) (d : Fin 768) (e : Fin 768 → EReal) (he : ∀ d, e d = (clsRow x c d : EReal))
    (hk : ofGroup c a b = k) :
    (k : EReal) * Ideal.div (e d) (max (Ideal.sqrt (∑ d, e d * e d)) (Ideal.ofBits .f32 0x2B8CBCCC#32)) = (start x a b c d : EReal) := by
  simp only [he, ← EReal.coe_mul, coe_total]
  rw [coe_root (Finset.sum_nonneg fun d _ => mul_self_nonneg _), eps_bits, coe_larger, coe_over _ (guard_pos _), ← EReal.coe_mul,
    ← EReal.coe_mul, ← hk]
  rfl

/-- Where the gate is open, as the reference tests it. -/
theorem gate_cell (T : ℕ → BitVec 32) (c t : ℕ) (x : BitVec 32) (n : EReal) (hx : x = T t) (hn : n = (before T c t : EReal)) (y z : EReal) :
    open Classical in
    Scalar.select (IntOp.andi (IntOp.cmpi .eq x 1#32) (BitVec.ofBool (decide (0 < n)))) y z
      = if T t = 1#32 ∧ 0 < before T c t then y else z := by
  unfold Scalar.select
  refine ite_congr (propext ?_) (fun _ => rfl) (fun _ => rfl)
  subst hx hn
  refine (and_one _ _).trans (and_congr ?_ ?_)
  · simp only [IntOp.cmpi, bit_one, beq_iff_eq]
  · rw [bit_one, decide_eq_true_iff, ← EReal.coe_zero, EReal.coe_lt_coe_iff]

theorem update3 {n0 n1 n2 : ℕ} (i : Fin n0) (t k : Fin n1) (c : Fin n2) :
    Function.update (ix3 i t c) 1 k = ix3 i k c := by
  funext a
  match a with
  | 0 => rfl
  | 1 => rfl
  | 2 => rfl

theorem update4 {n0 n1 n2 n3 : ℕ} (i : Fin n0) (t k : Fin n1) (c : Fin n2) (d : Fin n3) :
    Function.update (ix4 i t c d) 1 k = ix4 i k c d := by
  funext a
  match a with
  | 0 => rfl
  | 1 => rfl
  | 2 => rfl
  | 3 => rfl

end Cert.Proto
-- ==== Proof.Group.lean ====
module
public import proofs.«01_k».proof.Proof.Cells
@[expose] public section

/-!
# A group of classes in the reference

The reference computes the two groups of classes by the same operations on arrays of different width. `Group` lists what those
operations say of the arrays entry by entry; everything after that is derived once.
-/

set_option maxHeartbeats 1000000
noncomputable section

namespace Cert.Proto

open Idealize.ShloMosaic Cert.KernelIdeal Cert.KernelIdeal.Gen

/-- The arrays of a group of `n` classes from class `off` on, in row `i`, entry by entry. -/
structure Group (n off : ℕ) (hn : off + n ≤ 96) (h : Vec Ideal S4x2048x768 .f32) (e : Vec Ideal S100x768 .f32) (tok : Vec Ideal S4x2048 .i32)
    (i : Fin 4) (al tau st sp : EReal) (unit : Fin 2048 → Fin 768 → EReal) (hot cum : Fin 2048 → Fin n → EReal)
    (wcum total mean : Fin 2048 → Fin n → Fin 768 → EReal) (sm res : Fin 2048 → Fin n → EReal) : Prop where
  hot_eq : ∀ t c, hot t c = FloatOps.uitofp (F := Ideal) .f32 (IntOp.andi (IntOp.cmpi .eq (tok (ix2 i t)) 1#32)
    (IntOp.cmpi .eq (tokAt tok i (t.val + 1)) (BitVec.ofNat 32 (4 + (off + c.val)))))
  cum_eq : ∀ c (f : ℕ → ℝ), (∀ s : Fin 2048, hot s c = (f s.val : EReal)) → ∀ t, cum t c = ((∑ s ∈ Finset.range (t.val + 1), f s : ℝ) : EReal)
  wcum_eq : ∀ c d (f : ℕ → ℝ), (∀ s : Fin 2048, hot s c * unit s d = (f s.val : EReal)) →
    ∀ t, wcum t c d = ((∑ s ∈ Finset.range (t.val + 1), f s : ℝ) : EReal)
  total_eq : ∀ t c d, total t c d = wcum t c d - hot t c * unit t d
    + al * Ideal.div (eRows e (ix2 ⟨off + c.val, by have := c.isLt; omega⟩ d))
        (max (Ideal.sqrt (∑ d, eRows e (ix2 ⟨off + c.val, by have := c.isLt; omega⟩ d) * eRows e (ix2 ⟨off + c.val, by have := c.isLt; omega⟩ d)))
          (Ideal.ofBits .f32 0x2B8CBCCC#32))
  mean_eq : ∀ t c d, mean t c d = Ideal.div (total t c d) (cum t c - hot t c + al + Ideal.ofBits .f32 0x322BCC77#32)
  sm_eq : ∀ t c, sm t c
    = ∑ d, Ideal.div (mean t c d) (max (Ideal.sqrt (∑ d, mean t c d * mean t c d)) (Ideal.ofBits .f32 0x2B8CBCCC#32)) * unit t d
  res_eq : ∀ t c, res t c = st * (∑ d : Fin 768, h (ix3 i t d) * eRows e (ix2 ⟨off + c.val, by have := c.isLt; omega⟩ d))
    + sp * Scalar.select (IntOp.andi (IntOp.cmpi .eq (tok (ix2 i t)) 1#32) (BitVec.ofBool (decide (0 < ∑ x, (cum t x - hot t x)))))
        (sm t c * tau) 0

section Reads
variable {n off : ℕ} {hn : off + n ≤ 96} {h : Vec Ideal S4x2048x768 .f32} {e : Vec Ideal S100x768 .f32} {tok : Vec Ideal S4x2048 .i32}
  {i : Fin 4} {al tau st sp : EReal} {unit : Fin 2048 → Fin 768 → EReal} {hot cum : Fin 2048 → Fin n → EReal}
  {wcum total mean : Fin 2048 → Fin n → Fin 768 → EReal} {sm res : Fin 2048 → Fin n → EReal}
  (R : Group n off hn h e tok i al tau st sp unit hot cum wcum total mean sm res) (G : Good e)
  (hu : ∀ t d, unit t d = (scaled (recip (vecAt h i)) (vecAt h i) t.val d : EReal))
  {a b k : ℝ} (hal : al = (k : EReal)) (hk0 : 0 ≤ k) (hk : ∀ c : Fin n, ofGroup (off + c.val) a b = k)

theorem tok_here (tok : Vec Ideal S4x2048 .i32) (i : Fin 4) (t : Fin 2048) : tok (ix2 i t) = tokAt tok i t.val :=
  congrArg tok (congrArg (ix2 i) (Fin.ext (Nat.mod_eq_of_lt t.isLt).symm))

include R in
theorem Group.hot_read (t : Fin 2048) (c : Fin n) : hot t c = (wt (tokAt tok i) (off + c.val) t.val : EReal) := by
  rw [R.hot_eq]
  exact hot_cell (tokAt tok i) (off + c.val) t.val _ _ _ (tok_here tok i t) rfl rfl

include R in
theorem Group.count_read (t : Fin 2048) (c : Fin n) :
    cum t c - hot t c = ((∑ s ∈ Finset.range t.val, wt (tokAt tok i) (off + c.val) s : ℝ) : EReal) := by
  rw [R.cum_eq c (wt (tokAt tok i) (off + c.val)) (fun s => R.hot_read s c) t, R.hot_read, strict_cell]

include R G hu hal hk in
theorem Group.total_read (t : Fin 2048) (c : Fin n) (d : Fin 768) :
    total t c d = (tot (tokAt tok i) (vecAt h i) (start e a b) (off + c.val) t.val d : EReal) := by
  have hp : ∀ s : Fin 2048, hot s c * unit s d
      = ((wt (tokAt tok i) (off + c.val) s.val * scaled (recip (vecAt h i)) (vecAt h i) s.val d : ℝ) : EReal) := fun s => by
    rw [R.hot_read, hu, EReal.coe_mul]
  rw [R.total_eq, R.wcum_eq c d (fun s => wt (tokAt tok i) (off + c.val) s * scaled (recip (vecAt h i)) (vecAt h i) s d) hp t, hp t,
    strict_cell (fun s => wt (tokAt tok i) (off + c.val) s * scaled (recip (vecAt h i)) (vecAt h i) s d), hal]
  exact sums_cell _ _ _ _ _ _ _ (prior_cell e a b k (off + c.val) d _ (fun d => G.e_real ⟨off + c.val, _⟩ d) (hk c))

include R G hu hal hk hk0 in
theorem Group.mean_read (t : Fin 2048) (c : Fin n) (d : Fin 768) :
    mean t c d = ((tot (tokAt tok i) (vecAt h i) (start e a b) (off + c.val) t.val d
      * (1 / den (tokAt tok i) k (off + c.val) t.val) : ℝ) : EReal) := by
  rw [R.mean_eq, R.count_read, R.total_read G hu hal hk, hal, tiny_bits, ← EReal.coe_add, ← EReal.coe_add]
  exact (coe_over _ (den_pos _ hk0 _ _)).trans (EReal.coe_mul _ _).symm

include R G hu hal hk hk0 in
/-- The group's result at a position, as the formula of the kernel's. -/
theorem Group.res_read
    (hs : ∀ (t : Fin 2048) (c : Fin n), eps ≤ len (tot (tokAt tok i) (vecAt h i) (start e a b) (off + c.val) t.val))
    (hm : ∀ (t : Fin 2048) (c : Fin n), eps ≤ len fun d => tot (tokAt tok i) (vecAt h i) (start e a b) (off + c.val) t.val d
      * (1 / den (tokAt tok i) k (off + c.val) t.val))
    (hb : ∀ (t : ℕ) (c : Fin n), ∑ s ∈ Finset.range t, grp (tokAt tok i) (BitVec.ofNat 32 (4 + off)) (BitVec.ofNat 32 (4 + off + n)) s
      = before (tokAt tok i) (off + c.val) t) (t : Fin 2048) (c : Fin n) :
    res t c = target tau st sp (∑ d : Fin 768, h (ix3 i t d) * eRows e (ix2 ⟨off + c.val, by have := c.isLt; omega⟩ d)) (tokAt tok i)
      (vecAt h i) (start e a b) (off + c.val) t.val := by
  have hg : ∑ x, (cum t x - hot t x) = (before (tokAt tok i) (off + c.val) t.val : EReal) := by
    simp only [R.count_read, coe_total]
    rw [group_before _ off n (by omega), hb]
  rw [R.res_eq, gate_cell (tokAt tok i) (off + c.val) t.val _ _ (tok_here tok i t) hg, R.sm_eq,
    sim_cell (tokAt tok i) (vecAt h i) (start e a b) hk0 (off + c.val) t.val _ _ (fun d => R.mean_read G hu hal hk0 hk t c d) (hu t) (hs t c)
      (hm t c)]
  unfold target
  refine congrArg _ ?_
  rw [mul_ite, mul_zero]

/-! ## The first position, where nothing has been added yet -/

/-- The test a length passes or fails. -/
def longBit (y : Fin 768 → EReal) : BitVec 1 := Ideal.cmp .oge (Ideal.sqrt (∑ d, y d * y d)) (Ideal.ofBits .f32 0x2B8CBCCC#32)

theorem zero_short {y : Fin 768 → EReal} (hy : ∀ d, y d = 0) : longBit y ≠ 1#1 := fun h => by
  have hle := (Ideal.cmp_oge_eq_one _ _).mp h
  simp only [hy, mul_zero, Finset.sum_const_zero] at hle
  rw [← EReal.coe_zero, coe_root le_rfl, Real.sqrt_zero, eps_bits] at hle
  exact absurd (EReal.coe_le_coe_iff.mp hle) (not_le.mpr eps_pos)

include R hu in
theorem Group.total_first (c : Fin n) (d : Fin 768) : total 0 c d
    = al * Ideal.div (eRows e (ix2 ⟨off + c.val, by have := c.isLt; omega⟩ d))
        (max (Ideal.sqrt (∑ d, eRows e (ix2 ⟨off + c.val, by have := c.isLt; omega⟩ d) * eRows e (ix2 ⟨off + c.val, by have := c.isLt; omega⟩ d)))
          (Ideal.ofBits .f32 0x2B8CBCCC#32)) := by
  have hp : ∀ s : Fin 2048, hot s c * unit s d
      = ((wt (tokAt tok i) (off + c.val) s.val * scaled (recip (vecAt h i)) (vecAt h i) s.val d : ℝ) : EReal) := fun s => by
    rw [R.hot_read, hu, EReal.coe_mul]
  rw [R.total_eq, R.wcum_eq c d (fun s => wt (tokAt tok i) (off + c.val) s * scaled (recip (vecAt h i)) (vecAt h i) s d) hp 0, hp 0,
    strict_cell (fun s => wt (tokAt tok i) (off + c.val) s * scaled (recip (vecAt h i)) (vecAt h i) s d)]
  simp only [Fin.val_zero, Finset.sum_range_zero, EReal.coe_zero, zero_add]

include R in
theorem Group.mean_first (ht : al = ⊤) (c : Fin n) (d : Fin 768) : mean 0 c d = 0 := by
  rw [R.mean_eq, R.count_read, ht, tiny_bits, EReal.coe_add_top, EReal.top_add_coe]
  simp [Ideal.div]

include R hu in
/-- A class's embedding row is real if its sum passes the test at the first position. -/
theorem Group.row_real (hs : ∀ c : Fin n, longBit (total 0 c) = 1#1) (c : Fin n) (d : Fin 768) :
    eRows e (ix2 ⟨off + c.val, by have := c.isLt; omega⟩ d) = (clsRow e (off + c.val) d : EReal) := by
  refine (real_or (eRows e (ix2 ⟨off + c.val, by have := c.isLt; omega⟩ d) : EReal)).resolve_right fun hi => zero_short (fun d => ?_) (hs c)
  rw [R.total_first hu, over_top ⟨_, hi⟩, mul_zero]

include R in
/-- The prior is finite if a mean passes the test at the first position. -/
theorem Group.prior_finite (hm : ∀ c : Fin n, longBit (mean 0 c) = 1#1) (c : Fin n) : al ≠ ⊤ := fun ht =>
  zero_short (R.mean_first ht c) (hm c)

end Reads

end Cert.Proto
-- ==== Proof.Ref.lean ====
module
public import proofs.«01_k».proof.Proof.Group
public import proofs.«01_k».proof.Proof.Gen.ReferenceIdeal.Read
@[expose] public section

/-!
# The reference's two groups

The arrays of the reference, entry by entry, as `Group` lists them.
-/

set_option maxHeartbeats 1000000
noncomputable section

namespace Cert.ReferenceIdeal.Read

open Idealize.ShloMosaic Idealize.ShloMosaic.TcCoe Idealize.ShloMosaic.Tactic
open Cert.Proto Cert.KernelIdeal.Gen

variable (x0 : (⟨S4x2048x768, .f32⟩ : BufTy).Contents (Elt Ideal)) (x1 : (⟨S100x768, .f32⟩ : BufTy).Contents (Elt Ideal))
  (x2 : (⟨S4x2048, .i32⟩ : BufTy).Contents (Elt Ideal)) (x3 x4 x5 x6 x7 x8 x9 x10 : (⟨S_, .f32⟩ : BufTy).Contents (Elt Ideal))

/-- The token after a position. -/
theorem next_read (i : Fin 4) (t : Fin 2048) : val_main_v9 (F := Ideal) x2 (ix2 i t) = tokAt x2 i (t.val + 1) := by
  have ht := t.isLt
  pointwise [val_main_v9, val_main_v7, val_main_v8]
  unfold tokAt
  split
  · exact congrArg x2 (congrArg (ix2 i) (Fin.ext (by simp only; omega)))
  · exact congrArg x2 (congrArg (ix2 i) (Fin.ext (by simp only; omega)))

/-- The unit vector at a position. -/
theorem unit_read (i : Fin 4) (t : Fin 2048) (d : Fin 768) :
    val_main_v4 (F := Ideal) x0 (ix3 i t d) = (scaled (recip (vecAt x0 i)) (vecAt x0 i) t.val d : EReal) := by
  have e := vecAt_cases x0 i t.val
  simp only [entryAt_here] at e
  pointwise [val_main_v4, val_main_v3, val_main_v2, val_main_v1, val_main_cst, val_main_v0, val_main_call0_v2, val_main_call0_v1,
    val_main_call0_v0, val_main_call0_cst]
  rcases e with hU | ⟨hU, hi⟩
  · simp only [hU, ← EReal.coe_mul, coe_total]
    rw [coe_root (Finset.sum_nonneg fun d _ => mul_self_nonneg _), eps_bits, coe_larger, coe_over _ (guard_pos _), ← EReal.coe_mul]
    rfl
  · rw [over_top hi, scaled_zero hU, EReal.coe_zero]

theorem act_rows (c : Fin 64) (d : Fin 768) : eRows x1 (ix2 ⟨0 + c.val, by have := c.isLt; omega⟩ d) = val_main_v10 (F := Ideal) x1 (ix2 c d) := by
  pointwise [val_main_v10]
  unfold eRows
  exact congrArg x1 (congrArg (ix2 · d) (Fin.ext (by simp only [ix2]; omega)))

theorem act_hot (i : Fin 4) (t : Fin 2048) (c : Fin 64) : val_main_v26 (F := Ideal) x2 (ix3 i t c)
    = FloatOps.uitofp (F := Ideal) .f32 (IntOp.andi (IntOp.cmpi .eq (x2 (ix2 i t)) 1#32)
      (IntOp.cmpi .eq (tokAt x2 i (t.val + 1)) (BitVec.ofNat 32 (4 + (0 + c.val))))) := by
  have hk : IntOp.addi 4#32 (BitVec.ofNat 32 c.val) = BitVec.ofNat 32 (4 + (0 + c.val)) := by
    rw [← Nat.add_assoc, BitVec.ofNat_add]
    rfl
  rw [← hk, ← next_read]
  pointwise [val_main_v26, val_main_v25, val_main_v24, val_main_v23, val_main_v22, val_main_v21, val_main_v20, val_main_v19, val_main_v18, val_main_v17, val_main_v16, val_main_v15, val_main_c_0, val_main_v6, val_main_v5, val_main_c]

theorem act_count (i : Fin 4) (c : Fin 64) (f : ℕ → ℝ) (hf : ∀ s : Fin 2048, val_main_v26 (F := Ideal) x2 (ix3 i s c) = (f s.val : EReal)) (t : Fin 2048) :
    val_main_v27 (F := Ideal) x2 (ix3 i t c) = ((∑ s ∈ Finset.range (t.val + 1), f s : ℝ) : EReal) :=
  running_read (s := S4x2048x64) 1 (m := 2047) rfl _ _ _ _ rfl (by decide) (by decide) rfl (by decide) _ _
    (fun k => (val_main_call5_call0_v0_apply k).trans zero_bits) _ _ _ f
    fun k hk => (congrArg _ (update3 i t ⟨k, hk⟩ c)).trans (hf ⟨k, hk⟩)

theorem act_hot_unit (i : Fin 4) (t : Fin 2048) (c : Fin 64) (d : Fin 768) : val_main_v33 (F := Ideal) x0 x2 (ix4 i t c d)
    = val_main_v26 (F := Ideal) x2 (ix3 i t c) * val_main_v4 (F := Ideal) x0 (ix3 i t d) := by
  pointwise [val_main_v33, val_main_v32, val_main_v31, val_main_v30, val_main_v29]

theorem act_sums (i : Fin 4) (c : Fin 64) (d : Fin 768) (f : ℕ → ℝ)
    (hf : ∀ s : Fin 2048, val_main_v26 (F := Ideal) x2 (ix3 i s c) * val_main_v4 (F := Ideal) x0 (ix3 i s d) = (f s.val : EReal)) (t : Fin 2048) :
    val_main_v34 (F := Ideal) x0 x2 (ix4 i t c d) = ((∑ s ∈ Finset.range (t.val + 1), f s : ℝ) : EReal) :=
  running_read (s := S4x2048x64x768) 1 (m := 2047) rfl _ _ _ _ rfl (by decide) (by decide) rfl (by decide) _ _
    (fun k => (val_main_call6_call0_v0_apply k).trans zero_bits) _ _ _ f
    fun k hk => (congrArg _ (update4 i t ⟨k, hk⟩ c d)).trans ((act_hot_unit x0 x2 i ⟨k, hk⟩ c d).trans (hf ⟨k, hk⟩))

theorem act_total (i : Fin 4) (t : Fin 2048) (c : Fin 64) (d : Fin 768) : val_main_v45 (F := Ideal) x0 x1 x2 x7 (ix4 i t c d)
    = val_main_v34 (F := Ideal) x0 x2 (ix4 i t c d) - val_main_v26 (F := Ideal) x2 (ix3 i t c) * val_main_v4 (F := Ideal) x0 (ix3 i t d)
      + val_main_v13 (F := Ideal) x7 ix0 * Ideal.div (eRows x1 (ix2 ⟨0 + c.val, by have := c.isLt; omega⟩ d))
        (max (Ideal.sqrt (∑ d, eRows x1 (ix2 ⟨0 + c.val, by have := c.isLt; omega⟩ d) * eRows x1 (ix2 ⟨0 + c.val, by have := c.isLt; omega⟩ d))) (Ideal.ofBits .f32 0x2B8CBCCC#32)) := by
  simp only [act_rows]
  rw [← act_hot_unit]
  pointwise [val_main_v45, val_main_v44, val_main_v43, val_main_v42, val_main_v41, val_main_v40, val_main_v39, val_main_v38, val_main_v37, val_main_cst_1, val_main_v36, val_main_call7_v2, val_main_call7_v1, val_main_call7_cst, val_main_call7_v0, val_main_v35]

theorem act_mean (i : Fin 4) (t : Fin 2048) (c : Fin 64) (d : Fin 768) : val_main_v52 (F := Ideal) x0 x1 x2 x7 (ix4 i t c d)
    = Ideal.div (val_main_v45 (F := Ideal) x0 x1 x2 x7 (ix4 i t c d))
      (val_main_v27 (F := Ideal) x2 (ix3 i t c) - val_main_v26 (F := Ideal) x2 (ix3 i t c) + val_main_v13 (F := Ideal) x7 ix0 + Ideal.ofBits .f32 0x322BCC77#32) := by
  pointwise [val_main_v52, val_main_v51, val_main_v50, val_main_v49, val_main_v48, val_main_v47, val_main_v46, val_main_cst_2, val_main_v28]

theorem act_sim (i : Fin 4) (t : Fin 2048) (c : Fin 64) : val_main_v58 (F := Ideal) x0 x1 x2 x7 (ix3 i t c)
    = ∑ d, Ideal.div (val_main_v52 (F := Ideal) x0 x1 x2 x7 (ix4 i t c d))
      (max (Ideal.sqrt (∑ d, val_main_v52 (F := Ideal) x0 x1 x2 x7 (ix4 i t c d) * val_main_v52 (F := Ideal) x0 x1 x2 x7 (ix4 i t c d)))
        (Ideal.ofBits .f32 0x2B8CBCCC#32)) * val_main_v4 (F := Ideal) x0 (ix3 i t d) := by
  pointwise [val_main_v58, val_main_v57, val_main_v56, val_main_v55, val_main_v54, val_main_v53, val_main_cst_3, val_main_call8_v2, val_main_call8_v1, val_main_call8_v0, val_main_call8_cst]

theorem act_result (i : Fin 4) (t : Fin 2048) (c : Fin 64) : val_main_v73 (F := Ideal) x0 x1 x2 x3 x5 x7 x9 (ix3 i t c)
    = val_main_v11 (F := Ideal) x3 ix0 * (∑ d : Fin 768, x0 (ix3 i t d) * eRows x1 (ix2 ⟨0 + c.val, by have := c.isLt; omega⟩ d))
    + val_main_v12 (F := Ideal) x5 ix0 * Scalar.select (IntOp.andi (IntOp.cmpi .eq (x2 (ix2 i t)) 1#32)
        (BitVec.ofBool (decide (0 < ∑ x, (val_main_v27 (F := Ideal) x2 (ix3 i t x) - val_main_v26 (F := Ideal) x2 (ix3 i t x))))))
      (val_main_v58 (F := Ideal) x0 x1 x2 x7 (ix3 i t c) * val_main_v14 (F := Ideal) x9 ix0) 0 := by
  simp only [act_rows]
  pointwise [val_main_v73, val_main_v72, val_main_v71, val_main_v70, val_main_v69, val_main_v68, val_main_v67, val_main_v66, val_main_v65, val_main_v64, val_main_v63, val_main_v62, val_main_v61, val_main_v60, val_main_v59, val_main_v28, val_main_cst_4, val_main_cst_5, val_main_cst_6, val_main_call9_v1, val_main_call9_v2, val_main_call9_v0, val_main_v6, val_main_v5, val_main_c]
  rw [show (id (constant (F := Ideal) S_ .f32 0x00000000#32) : Vec Ideal S_ .f32) ix0 = 0 from zero_bits]
  unfold Scalar.select
  split
  · rfl
  · rw [mul_zero]

/-- The first group: 64 classes. -/
theorem act_group (i : Fin 4) : Group 64 0 (by norm_num) x0 x1 x2 i (val_main_v13 (F := Ideal) x7 ix0) (val_main_v14 (F := Ideal) x9 ix0)
    (val_main_v11 (F := Ideal) x3 ix0) (val_main_v12 (F := Ideal) x5 ix0) (fun t d => val_main_v4 (F := Ideal) x0 (ix3 i t d))
    (fun t c => val_main_v26 (F := Ideal) x2 (ix3 i t c)) (fun t c => val_main_v27 (F := Ideal) x2 (ix3 i t c))
    (fun t c d => val_main_v34 (F := Ideal) x0 x2 (ix4 i t c d)) (fun t c d => val_main_v45 (F := Ideal) x0 x1 x2 x7 (ix4 i t c d))
    (fun t c d => val_main_v52 (F := Ideal) x0 x1 x2 x7 (ix4 i t c d)) (fun t c => val_main_v58 (F := Ideal) x0 x1 x2 x7 (ix3 i t c))
    (fun t c => val_main_v73 (F := Ideal) x0 x1 x2 x3 x5 x7 x9 (ix3 i t c)) where
  hot_eq := act_hot x2 i
  cum_eq := act_count x2 i
  wcum_eq := act_sums x0 x2 i
  total_eq := act_total x0 x1 x2 x7 i
  mean_eq := act_mean x0 x1 x2 x7 i
  sm_eq := act_sim x0 x1 x2 x7 i
  res_eq := act_result x0 x1 x2 x3 x5 x7 x9 i

theorem time_rows (c : Fin 32) (d : Fin 768) : eRows x1 (ix2 ⟨64 + c.val, by have := c.isLt; omega⟩ d) = val_main_v74 (F := Ideal) x1 (ix2 c d) := by
  pointwise [val_main_v74]
  unfold eRows
  exact congrArg x1 (congrArg (ix2 · d) (Fin.ext (by simp only [ix2]; omega)))

theorem time_hot (i : Fin 4) (t : Fin 2048) (c : Fin 32) : val_main_v90 (F := Ideal) x2 (ix3 i t c)
    = FloatOps.uitofp (F := Ideal) .f32 (IntOp.andi (IntOp.cmpi .eq (x2 (ix2 i t)) 1#32)
      (IntOp.cmpi .eq (tokAt x2 i (t.val + 1)) (BitVec.ofNat 32 (4 + (64 + c.val))))) := by
  have hk : IntOp.addi 68#32 (BitVec.ofNat 32 c.val) = BitVec.ofNat 32 (4 + (64 + c.val)) := by
    rw [← Nat.add_assoc, BitVec.ofNat_add]
    rfl
  rw [← hk, ← next_read]
  pointwise [val_main_v90, val_main_v89, val_main_v88, val_main_v87, val_main_v86, val_main_v85, val_main_v84, val_main_v83, val_main_v82, val_main_v81, val_main_v80, val_main_v79, val_main_c_7, val_main_v6, val_main_v5, val_main_c]

theorem time_count (i : Fin 4) (c : Fin 32) (f : ℕ → ℝ) (hf : ∀ s : Fin 2048, val_main_v90 (F := Ideal) x2 (ix3 i s c) = (f s.val : EReal)) (t : Fin 2048) :
    val_main_v91 (F := Ideal) x2 (ix3 i t c) = ((∑ s ∈ Finset.range (t.val + 1), f s : ℝ) : EReal) :=
  running_read (s := S4x2048x32) 1 (m := 2047) rfl _ _ _ _ rfl (by decide) (by decide) rfl (by decide) _ _
    (fun k => (val_main_call14_call0_v0_apply k).trans zero_bits) _ _ _ f
    fun k hk => (congrArg _ (update3 i t ⟨k, hk⟩ c)).trans (hf ⟨k, hk⟩)

theorem time_hot_unit (i : Fin 4) (t : Fin 2048) (c : Fin 32) (d : Fin 768) : val_main_v97 (F := Ideal) x0 x2 (ix4 i t c d)
    = val_main_v90 (F := Ideal) x2 (ix3 i t c) * val_main_v4 (F := Ideal) x0 (ix3 i t d) := by
  pointwise [val_main_v97, val_main_v96, val_main_v95, val_main_v94, val_main_v93]

theorem time_sums (i : Fin 4) (c : Fin 32) (d : Fin 768) (f : ℕ → ℝ)
    (hf : ∀ s : Fin 2048, val_main_v90 (F := Ideal) x2 (ix3 i s c) * val_main_v4 (F := Ideal) x0 (ix3 i s d) = (f s.val : EReal)) (t : Fin 2048) :
    val_main_v98 (F := Ideal) x0 x2 (ix4 i t c d) = ((∑ s ∈ Finset.range (t.val + 1), f s : ℝ) : EReal) :=
  running_read (s := S4x2048x32x768) 1 (m := 2047) rfl _ _ _ _ rfl (by decide) (by decide) rfl (by decide) _ _
    (fun k => (val_main_call15_call0_v0_apply k).trans zero_bits) _ _ _ f
    fun k hk => (congrArg _ (update4 i t ⟨k, hk⟩ c d)).trans ((time_hot_unit x0 x2 i ⟨k, hk⟩ c d).trans (hf ⟨k, hk⟩))

theorem time_total (i : Fin 4) (t : Fin 2048) (c : Fin 32) (d : Fin 768) : val_main_v109 (F := Ideal) x0 x1 x2 x8 (ix4 i t c d)
    = val_main_v98 (F := Ideal) x0 x2 (ix4 i t c d) - val_main_v90 (F := Ideal) x2 (ix3 i t c) * val_main_v4 (F := Ideal) x0 (ix3 i t d)
      + val_main_v77 (F := Ideal) x8 ix0 * Ideal.div (eRows x1 (ix2 ⟨64 + c.val, by have := c.isLt; omega⟩ d))
        (max (Ideal.sqrt (∑ d, eRows x1 (ix2 ⟨64 + c.val, by have := c.isLt; omega⟩ d) * eRows x1 (ix2 ⟨64 + c.val, by have := c.isLt; omega⟩ d))) (Ideal.ofBits .f32 0x2B8CBCCC#32)) := by
  simp only [time_rows]
  rw [← time_hot_unit]
  pointwise [val_main_v109, val_main_v108, val_main_v107, val_main_v106, val_main_v105, val_main_v104, val_main_v103, val_main_v102, val_main_v101, val_main_cst_8, val_main_v100, val_main_call16_v2, val_main_call16_v1, val_main_call16_cst, val_main_call16_v0, val_main_v99]

theorem time_mean (i : Fin 4) (t : Fin 2048) (c : Fin 32) (d : Fin 768) : val_main_v116 (F := Ideal) x0 x1 x2 x8 (ix4 i t c d)
    = Ideal.div (val_main_v109 (F := Ideal) x0 x1 x2 x8 (ix4 i t c d))
      (val_main_v91 (F := Ideal) x2 (ix3 i t c) - val_main_v90 (F := Ideal) x2 (ix3 i t c) + val_main_v77 (F := Ideal) x8 ix0 + Ideal.ofBits .f32 0x322BCC77#32) := by
  pointwise [val_main_v116, val_main_v115, val_main_v114, val_main_v113, val_main_v112, val_main_v111, val_main_v110, val_main_cst_9, val_main_v92]

theorem time_sim (i : Fin 4) (t : Fin 2048) (c : Fin 32) : val_main_v122 (F := Ideal) x0 x1 x2 x8 (ix3 i t c)
    = ∑ d, Ideal.div (val_main_v116 (F := Ideal) x0 x1 x2 x8 (ix4 i t c d))
      (max (Ideal.sqrt (∑ d, val_main_v116 (F := Ideal) x0 x1 x2 x8 (ix4 i t c d) * val_main_v116 (F := Ideal) x0 x1 x2 x8 (ix4 i t c d)))
        (Ideal.ofBits .f32 0x2B8CBCCC#32)) * val_main_v4 (F := Ideal) x0 (ix3 i t d) := by
  pointwise [val_main_v122, val_main_v121, val_main_v120, val_main_v119, val_main_v118, val_main_v117, val_main_cst_10, val_main_call17_v2, val_main_call17_v1, val_main_call17_v0, val_main_call17_cst]

theorem time_result (i : Fin 4) (t : Fin 2048) (c : Fin 32) : val_main_v137 (F := Ideal) x0 x1 x2 x4 x6 x8 x10 (ix3 i t c)
    = val_main_v75 (F := Ideal) x4 ix0 * (∑ d : Fin 768, x0 (ix3 i t d) * eRows x1 (ix2 ⟨64 + c.val, by have := c.isLt; omega⟩ d))
    + val_main_v76 (F := Ideal) x6 ix0 * Scalar.select (IntOp.andi (IntOp.cmpi .eq (x2 (ix2 i t)) 1#32)
        (BitVec.ofBool (decide (0 < ∑ x, (val_main_v91 (F := Ideal) x2 (ix3 i t x) - val_main_v90 (F := Ideal) x2 (ix3 i t x))))))
      (val_main_v122 (F := Ideal) x0 x1 x2 x8 (ix3 i t c) * val_main_v78 (F := Ideal) x10 ix0) 0 := by
  simp only [time_rows]
  pointwise [val_main_v137, val_main_v136, val_main_v135, val_main_v134, val_main_v133, val_main_v132, val_main_v131, val_main_v130, val_main_v129, val_main_v128, val_main_v127, val_main_v126, val_main_v125, val_main_v124, val_main_v123, val_main_v92, val_main_cst_11, val_main_cst_12, val_main_cst_13, val_main_call18_v1, val_main_call18_v2, val_main_call18_v0, val_main_v6, val_main_v5, val_main_c]
  rw [show (id (constant (F := Ideal) S_ .f32 0x00000000#32) : Vec Ideal S_ .f32) ix0 = 0 from zero_bits]
  unfold Scalar.select
  split
  · rfl
  · rw [mul_zero]

/-- The second group: 32 classes. -/
theorem time_group (i : Fin 4) : Group 32 64 (by norm_num) x0 x1 x2 i (val_main_v77 (F := Ideal) x8 ix0) (val_main_v78 (F := Ideal) x10 ix0)
    (val_main_v75 (F := Ideal) x4 ix0) (val_main_v76 (F := Ideal) x6 ix0) (fun t d => val_main_v4 (F := Ideal) x0 (ix3 i t d))
    (fun t c => val_main_v90 (F := Ideal) x2 (ix3 i t c)) (fun t c => val_main_v91 (F := Ideal) x2 (ix3 i t c))
    (fun t c d => val_main_v98 (F := Ideal) x0 x2 (ix4 i t c d)) (fun t c d => val_main_v109 (F := Ideal) x0 x1 x2 x8 (ix4 i t c d))
    (fun t c d => val_main_v116 (F := Ideal) x0 x1 x2 x8 (ix4 i t c d)) (fun t c => val_main_v122 (F := Ideal) x0 x1 x2 x8 (ix3 i t c))
    (fun t c => val_main_v137 (F := Ideal) x0 x1 x2 x4 x6 x8 x10 (ix3 i t c)) where
  hot_eq := time_hot x2 i
  cum_eq := time_count x2 i
  wcum_eq := time_sums x0 x2 i
  total_eq := time_total x0 x1 x2 x8 i
  mean_eq := time_mean x0 x1 x2 x8 i
  sm_eq := time_sim x0 x1 x2 x8 i
  res_eq := time_result x0 x1 x2 x4 x6 x8 x10 i

/-- The reference's result, group by group. -/
theorem result_read (i : Fin 4) (t : Fin 2048) (c : Fin 96) : val_main_v138 (F := Ideal) x0 x1 x2 x3 x4 x5 x6 x7 x8 x9 x10 (ix3 i t c)
    = if h : c.val < 64 then val_main_v73 (F := Ideal) x0 x1 x2 x3 x5 x7 x9 (ix3 i t ⟨c.val, h⟩)
      else val_main_v137 (F := Ideal) x0 x1 x2 x4 x6 x8 x10 (ix3 i t ⟨c.val - 64, by have := c.isLt; omega⟩) := by
  pointwise [val_main_v138]

end Cert.ReferenceIdeal.Read
-- ==== Proof.Idle.lean ====
module
public import proofs.«01_k».proof.Proof.Ref
public import proofs.«01_k».proof.Pre_well_posed
@[expose] public section

/-!
# What the precondition says

The five arrays of booleans of the precondition, read as facts about numbers. That the embedding rows and the priors are
finite follows from the tests at the first position of a row, where a sum is the scaled embedding row alone.
-/

set_option maxHeartbeats 1000000
noncomputable section

namespace Cert.Idle

open Idealize.ShloMosaic Idealize.ShloMosaic.TcCoe Idealize.ShloMosaic.Tactic
open Cert.Proto Cert.KernelIdeal Cert.KernelIdeal.Gen Cert.ReferenceIdeal.Read

/-- The shape facts of the precondition. -/
theorem shapes : Cert.Pre_well_posed.Facts := by constructor <;> decide

variable [Cert.Pre_well_posed.Facts] (x0 : FVec Ideal S4x2048x768 .f32) (x1 : FVec Ideal S100x768 .f32) (x2 : IVec S4x2048 32)
  (x3 x4 x5 x6 x7 x8 x9 x10 : FVec Ideal S_ .f32)

/-- The embedding rows of the classes, as the precondition cuts them. -/
def rowsE (x1 : FVec Ideal S100x768 .f32) : FVec Ideal Cert.Pre_well_posed.S96x768 .f32 :=
  (extractStridedSlice Cert.Pre_well_posed.S96x768 ![4, 0] · Cert.Pre_well_posed.Facts.slices_S100x768_S96x768_4_0) x1

theorem pre_long : (Cert.Pre_well_posed.fn (F := Ideal) x0 x1 x2 x3 x4 x5 x6 x7 x8 x9 x10).1
  = cmpf .oge (Cert.Pre_well_posed.fn_norm_11 (rowsE x1)) (broadcastInDim _ ![] Cert.Pre_well_posed.Facts.bcast_S_S96 (constant (F := Ideal) Cert.Pre_well_posed.S_ .f32 0x2B8CBCCC#32)) := rfl

theorem pre_act_sum : (Cert.Pre_well_posed.fn (F := Ideal) x0 x1 x2 x3 x4 x5 x6 x7 x8 x9 x10).2.1
  = cmpf .oge (Cert.Pre_well_posed.fn_norm_4 (F := Ideal) (val_main_v45 (F := Ideal) x0 x1 x2 x7))
    (broadcastInDim _ ![] Cert.Pre_well_posed.Facts.bcast_S_S4x2048x64 (constant (F := Ideal) Cert.Pre_well_posed.S_ .f32 0x2B8CBCCC#32)) := rfl

theorem pre_act_mean : (Cert.Pre_well_posed.fn (F := Ideal) x0 x1 x2 x3 x4 x5 x6 x7 x8 x9 x10).2.2.1
  = cmpf .oge (Cert.Pre_well_posed.fn_norm_4 (F := Ideal) (val_main_v52 (F := Ideal) x0 x1 x2 x7))
    (broadcastInDim _ ![] Cert.Pre_well_posed.Facts.bcast_S_S4x2048x64 (constant (F := Ideal) Cert.Pre_well_posed.S_ .f32 0x2B8CBCCC#32)) := rfl

theorem pre_time_sum : (Cert.Pre_well_posed.fn (F := Ideal) x0 x1 x2 x3 x4 x5 x6 x7 x8 x9 x10).2.2.2.1
  = cmpf .oge (Cert.Pre_well_posed.fn_norm_10 (F := Ideal) (val_main_v109 (F := Ideal) x0 x1 x2 x8))
    (broadcastInDim _ ![] Cert.Pre_well_posed.Facts.bcast_S_S4x2048x32 (constant (F := Ideal) Cert.Pre_well_posed.S_ .f32 0x2B8CBCCC#32)) := rfl

theorem pre_time_mean : (Cert.Pre_well_posed.fn (F := Ideal) x0 x1 x2 x3 x4 x5 x6 x7 x8 x9 x10).2.2.2.2
  = cmpf .oge (Cert.Pre_well_posed.fn_norm_10 (F := Ideal) (val_main_v116 (F := Ideal) x0 x1 x2 x8))
    (broadcastInDim _ ![] Cert.Pre_well_posed.Facts.bcast_S_S4x2048x32 (constant (F := Ideal) Cert.Pre_well_posed.S_ .f32 0x2B8CBCCC#32)) := rfl

/-! ## Read as facts about numbers -/

omit [Cert.Pre_well_posed.Facts] in
/-- A vector of real numbers whose length passes the test. -/
theorem long_of (y : Fin 768 → EReal) (f : Fin 768 → ℝ) (hy : ∀ d, y d = (f d : EReal))
    (h : longBit y = 1#1) : eps ≤ len f := by
  have hle := (Ideal.cmp_oge_eq_one _ _).mp h
  simp only [hy, ← EReal.coe_mul, coe_total] at hle
  rw [coe_root (Finset.sum_nonneg fun d _ => mul_self_nonneg _), eps_bits] at hle
  exact EReal.coe_le_coe_iff.mp hle

omit [Cert.Pre_well_posed.Facts] in
/-- A softplus is infinite, or a real number and not negative. -/
theorem softplus_cases (x : Vec Ideal S_ .f32) (hx : sp x ix0 ≠ (⊤ : EReal)) : ∃ k : ℝ, 0 ≤ k ∧ sp x ix0 = (k : EReal) := by
  have e : sp x ix0 = if x ix0 ≠ x ix0 then x ix0
      else max (x ix0) 0 + Ideal.log1p (Ideal.exp (-(FloatOps.absf (F := Ideal) (φ := .f32) (x ix0) : EReal))) := by
    pointwise [sp]
  rw [if_neg (fun hn => hn rfl)] at e
  have e0 : Ideal.log1p 0 = 0 := by
    unfold Ideal.log1p
    rw [add_zero, ← EReal.coe_one, Ideal.log_coe, if_neg (by norm_num), Real.log_one, EReal.coe_zero]
  rcases real_or (x ix0) with h | h | h
  · generalize (x ix0 : EReal).toReal = r at h
    have hp : 0 < 1 + Real.exp (-max r (-r)) := by positivity
    refine ⟨max r 0 + Real.log (1 + Real.exp (-max r (-r))), ?_, ?_⟩
    · exact add_nonneg (le_max_right _ _) (Real.log_nonneg (by linarith [Real.exp_pos (-max r (-r))]))
    · have ha : (FloatOps.absf (F := Ideal) (φ := .f32) (r : EReal) : EReal) = ((max r (-r) : ℝ) : EReal) := by
        show max (r : EReal) (-(r : EReal)) = _
        rw [← EReal.coe_neg, coe_larger]
      rw [e, h]
      unfold Ideal.log1p
      rw [show (-(FloatOps.absf (F := Ideal) (φ := .f32) (r : EReal)) : EReal) = ((-max r (-r) : ℝ) : EReal) by rw [EReal.coe_neg, ← ha],
        Ideal.exp_coe, ← EReal.coe_one, ← EReal.coe_add, Ideal.log_coe, if_neg (not_le.mpr hp), ← EReal.coe_zero, coe_larger, ← EReal.coe_add]
  · refine absurd ?_ hx
    rw [e, h, show (-(FloatOps.absf (F := Ideal) (φ := .f32) (⊤ : EReal)) : EReal) = ⊥ by show -(max (⊤ : EReal) (-⊤)) = ⊥; simp,
      Ideal.exp_bot, e0, add_zero, max_eq_left le_top]
  · refine ⟨0, le_rfl, ?_⟩
    rw [e, h, show (-(FloatOps.absf (F := Ideal) (φ := .f32) (⊥ : EReal)) : EReal) = ⊥ by show -(max (⊥ : EReal) (-⊥)) = ⊥; simp,
      Ideal.exp_bot, e0, add_zero, max_eq_right bot_le, EReal.coe_zero]

theorem rows_read (c : Fin 96) (d : Fin 768) : rowsE x1 (ix2 c d) = eRows (F := Ideal) x1 (ix2 c d) := by
  have hc := c.isLt
  pointwise [rowsE]
  unfold eRows
  exact congrArg x1 (congrArg (ix2 · d) (Fin.ext (by simp only [ix2]; omega)))

theorem norm_rows (y : FVec Ideal Cert.Pre_well_posed.S96x768 .f32) (c : Fin 96) :
    Cert.Pre_well_posed.fn_norm_11 y (ix1 c) = Ideal.sqrt (∑ d, y (ix2 c d) * y (ix2 c d)) := by
  pointwise [Cert.Pre_well_posed.fn_norm_11]

theorem norm_act (y : FVec Ideal Cert.Pre_well_posed.S4x2048x64x768 .f32) (i : Fin 4) (t : Fin 2048) (c : Fin 64) :
    Cert.Pre_well_posed.fn_norm_4 y (ix3 i t c) = Ideal.sqrt (∑ d, y (ix4 i t c d) * y (ix4 i t c d)) := by
  pointwise [Cert.Pre_well_posed.fn_norm_4]

theorem norm_time (y : FVec Ideal Cert.Pre_well_posed.S4x2048x32x768 .f32) (i : Fin 4) (t : Fin 2048) (c : Fin 32) :
    Cert.Pre_well_posed.fn_norm_10 y (ix3 i t c) = Ideal.sqrt (∑ d, y (ix4 i t c d) * y (ix4 i t c d)) := by
  pointwise [Cert.Pre_well_posed.fn_norm_10]

variable {x0 x1 x2 x3 x4 x5 x6 x7 x8 x9 x10}

/-- A comparison that holds everywhere, at one index. -/
theorem at_index {s : Shape} {p : CmpFPredicate} {a b : FVec Ideal s .f32} {v : IVec s 1} (hv : v = cmpf p a b) (h : v = fun _ => 1#1) (k : s.Idx) :
    Ideal.cmp p (a k) (b k) = 1#1 := congrFun (hv.symm.trans h) k

theorem act_sum_bit (hp : (Cert.Pre_well_posed.fn (F := Ideal) x0 x1 x2 x3 x4 x5 x6 x7 x8 x9 x10).2.1 = fun _ => 1#1) (i : Fin 4) (t : Fin 2048) (c : Fin 64) :
    longBit (fun d => val_main_v45 (F := Ideal) x0 x1 x2 x7 (ix4 i t c d)) = 1#1 := by
  have h := at_index (pre_act_sum x0 x1 x2 x3 x4 x5 x6 x7 x8 x9 x10) hp (ix3 i t c)
  rw [norm_act] at h
  exact h

theorem act_mean_bit (hp : (Cert.Pre_well_posed.fn (F := Ideal) x0 x1 x2 x3 x4 x5 x6 x7 x8 x9 x10).2.2.1 = fun _ => 1#1) (i : Fin 4) (t : Fin 2048) (c : Fin 64) :
    longBit (fun d => val_main_v52 (F := Ideal) x0 x1 x2 x7 (ix4 i t c d)) = 1#1 := by
  have h := at_index (pre_act_mean x0 x1 x2 x3 x4 x5 x6 x7 x8 x9 x10) hp (ix3 i t c)
  rw [norm_act] at h
  exact h

theorem time_sum_bit (hp : (Cert.Pre_well_posed.fn (F := Ideal) x0 x1 x2 x3 x4 x5 x6 x7 x8 x9 x10).2.2.2.1 = fun _ => 1#1) (i : Fin 4) (t : Fin 2048) (c : Fin 32) :
    longBit (fun d => val_main_v109 (F := Ideal) x0 x1 x2 x8 (ix4 i t c d)) = 1#1 := by
  have h := at_index (pre_time_sum x0 x1 x2 x3 x4 x5 x6 x7 x8 x9 x10) hp (ix3 i t c)
  rw [norm_time] at h
  exact h

theorem time_mean_bit (hp : (Cert.Pre_well_posed.fn (F := Ideal) x0 x1 x2 x3 x4 x5 x6 x7 x8 x9 x10).2.2.2.2 = fun _ => 1#1) (i : Fin 4) (t : Fin 2048) (c : Fin 32) :
    longBit (fun d => val_main_v116 (F := Ideal) x0 x1 x2 x8 (ix4 i t c d)) = 1#1 := by
  have h := at_index (pre_time_mean x0 x1 x2 x3 x4 x5 x6 x7 x8 x9 x10) hp (ix3 i t c)
  rw [norm_time] at h
  exact h

/-- The embedding rows are real, and none is shorter than the guard. -/
theorem good (h1 : (Cert.Pre_well_posed.fn (F := Ideal) x0 x1 x2 x3 x4 x5 x6 x7 x8 x9 x10).1 = fun _ => 1#1) (h2 : (Cert.Pre_well_posed.fn (F := Ideal) x0 x1 x2 x3 x4 x5 x6 x7 x8 x9 x10).2.1 = fun _ => 1#1) (h4 : (Cert.Pre_well_posed.fn (F := Ideal) x0 x1 x2 x3 x4 x5 x6 x7 x8 x9 x10).2.2.2.1 = fun _ => 1#1) : Good x1 := by
  have he : ∀ c : Fin 96, ∀ d, eRows (F := Ideal) x1 (ix2 c d) = (clsRow x1 c.val d : EReal) := fun c d => by
    by_cases hc : c.val < 64
    · have h := (act_group x0 x1 x2 x3 x5 x7 x9 0).row_real (unit_read x0 0) (fun c => act_sum_bit h2 0 0 c) ⟨c.val, hc⟩ d
      simpa only [Nat.zero_add] using h
    · have h := (time_group x0 x1 x2 x4 x6 x8 x10 0).row_real (unit_read x0 0) (fun c => time_sum_bit h4 0 0 c)
        ⟨c.val - 64, by have := c.isLt; omega⟩ d
      simpa only [Nat.add_sub_cancel' (not_lt.mp hc)] using h
  refine ⟨he, fun c => ?_⟩
  have h := at_index (pre_long x0 x1 x2 x3 x4 x5 x6 x7 x8 x9 x10) h1 (ix1 c)
  rw [norm_rows] at h
  exact long_of _ _ (fun d => (rows_read x1 c d).trans (he c d)) h

theorem prior_act (h3 : (Cert.Pre_well_posed.fn (F := Ideal) x0 x1 x2 x3 x4 x5 x6 x7 x8 x9 x10).2.2.1 = fun _ => 1#1) : ∃ k : ℝ, 0 ≤ k ∧ sp (F := Ideal) x7 ix0 = (k : EReal) :=
  softplus_cases x7 ((act_group x0 x1 x2 x3 x5 x7 x9 0).prior_finite (fun c => act_mean_bit h3 0 0 c) 0)

theorem prior_time (h5 : (Cert.Pre_well_posed.fn (F := Ideal) x0 x1 x2 x3 x4 x5 x6 x7 x8 x9 x10).2.2.2.2 = fun _ => 1#1) : ∃ k : ℝ, 0 ≤ k ∧ sp (F := Ideal) x8 ix0 = (k : EReal) :=
  softplus_cases x8 ((time_group x0 x1 x2 x4 x6 x8 x10 0).prior_finite (fun c => time_mean_bit h5 0 0 c) 0)

end Cert.Idle
-- ==== Proof.Same.lean ====
module
public import proofs.«01_k».proof.Proof.Idle
@[expose] public section

/-!
# The kernel's result is the reference's

Group by group, then the two groups side by side.
-/

set_option maxHeartbeats 1000000
noncomputable section

namespace Cert.Idle

open Idealize.ShloMosaic Idealize.ShloMosaic.TcCoe Idealize.ShloMosaic.Tactic
open Cert.Proto Cert.KernelIdeal Cert.KernelIdeal.Gen Cert.ReferenceIdeal.Read

variable [Cert.Pre_well_posed.Facts] {x0 : FVec Ideal S4x2048x768 .f32} {x1 : FVec Ideal S100x768 .f32} {x2 : IVec S4x2048 32}
  {x3 x4 x5 x6 x7 x8 x9 x10 : FVec Ideal S_ .f32}

section Groups
variable (G : Good x1) {a b : ℝ} (ha0 : 0 ≤ a) (ha : sp (F := Ideal) x7 ix0 = (a : EReal)) (hb0 : 0 ≤ b)
  (hb : sp (F := Ideal) x8 ix0 = (b : EReal))
include G ha0 ha hb0 hb

/-- The kernel's entry and the reference's, in the first group. -/
theorem same_act (hs : (Cert.Pre_well_posed.fn (F := Ideal) x0 x1 x2 x3 x4 x5 x6 x7 x8 x9 x10).2.1 = fun _ => 1#1) (hm : (Cert.Pre_well_posed.fn (F := Ideal) x0 x1 x2 x3 x4 x5 x6 x7 x8 x9 x10).2.2.1 = fun _ => 1#1)
    (i : Fin 4) (t : Fin 2048) (c : Fin 64) : val_main_v73 (F := Ideal) x0 x1 x2 x3 x5 x7 x9 (ix3 i t c)
    = resVal (F := Ideal) x2 x0 x1 (parVal x3 x4 x5 x6 x7 x8 x9 x10) (ix3 i t ⟨0 + c.val, by have := c.isLt; omega⟩) := by
  have hc := c.isLt
  have R := act_group x0 x1 x2 x3 x5 x7 x9 i
  have hu := unit_read x0 i
  have hal : val_main_v13 (F := Ideal) x7 ix0 = (a : EReal) := ha
  have hk : ∀ c : Fin 64, ofGroup (0 + c.val) a b = a := fun c => if_pos (by have := c.isLt; omega)
  refine (R.res_read G hu hal ha0 hk (fun t c => long_of _ _ (fun d => R.total_read G hu hal hk t c d) (act_sum_bit hs i t c))
    (fun t c => long_of _ _ (fun d => R.mean_read G hu hal ha0 hk t c d) (act_mean_bit hm i t c)) (fun t c => ?_) t c).trans ?_
  · unfold before
    rw [if_pos (show 0 + c.val < 64 by have := c.isLt; omega)]
  · rw [resVal_read (p := parVal (F := Ideal) x3 x4 x5 x6 x7 x8 x9 x10) G ha hb]
    unfold ofGroup
    simp only [if_pos (show 0 + c.val < 64 by have := c.isLt; omega)]
    rfl

/-- The kernel's entry and the reference's, in the second group. -/
theorem same_time (hs : (Cert.Pre_well_posed.fn (F := Ideal) x0 x1 x2 x3 x4 x5 x6 x7 x8 x9 x10).2.2.2.1 = fun _ => 1#1) (hm : (Cert.Pre_well_posed.fn (F := Ideal) x0 x1 x2 x3 x4 x5 x6 x7 x8 x9 x10).2.2.2.2 = fun _ => 1#1)
    (i : Fin 4) (t : Fin 2048) (c : Fin 32) : val_main_v137 (F := Ideal) x0 x1 x2 x4 x6 x8 x10 (ix3 i t c)
    = resVal (F := Ideal) x2 x0 x1 (parVal x3 x4 x5 x6 x7 x8 x9 x10) (ix3 i t ⟨64 + c.val, by have := c.isLt; omega⟩) := by
  have hc := c.isLt
  have R := time_group x0 x1 x2 x4 x6 x8 x10 i
  have hu := unit_read x0 i
  have hal : val_main_v77 (F := Ideal) x8 ix0 = (b : EReal) := hb
  have hk : ∀ c : Fin 32, ofGroup (64 + c.val) a b = b := fun c => if_neg (by omega)
  refine (R.res_read G hu hal hb0 hk (fun t c => long_of _ _ (fun d => R.total_read G hu hal hk t c d) (time_sum_bit hs i t c))
    (fun t c => long_of _ _ (fun d => R.mean_read G hu hal hb0 hk t c d) (time_mean_bit hm i t c)) (fun t c => ?_) t c).trans ?_
  · unfold before
    rw [if_neg (show ¬ 64 + c.val < 64 by omega)]
  · rw [resVal_read (p := parVal (F := Ideal) x3 x4 x5 x6 x7 x8 x9 x10) G ha hb]
    unfold ofGroup
    simp only [if_neg (show ¬ 64 + c.val < 64 by omega)]
    rfl

end Groups

/-- Under the precondition the two results are one array. -/
theorem same (h1 : (Cert.Pre_well_posed.fn (F := Ideal) x0 x1 x2 x3 x4 x5 x6 x7 x8 x9 x10).1 = fun _ => 1#1) (h2 : (Cert.Pre_well_posed.fn (F := Ideal) x0 x1 x2 x3 x4 x5 x6 x7 x8 x9 x10).2.1 = fun _ => 1#1) (h3 : (Cert.Pre_well_posed.fn (F := Ideal) x0 x1 x2 x3 x4 x5 x6 x7 x8 x9 x10).2.2.1 = fun _ => 1#1)
    (h4 : (Cert.Pre_well_posed.fn (F := Ideal) x0 x1 x2 x3 x4 x5 x6 x7 x8 x9 x10).2.2.2.1 = fun _ => 1#1) (h5 : (Cert.Pre_well_posed.fn (F := Ideal) x0 x1 x2 x3 x4 x5 x6 x7 x8 x9 x10).2.2.2.2 = fun _ => 1#1) :
    val_main_v138 (F := Ideal) x0 x1 x2 x3 x4 x5 x6 x7 x8 x9 x10 = resVal (F := Ideal) x2 x0 x1 (parVal x3 x4 x5 x6 x7 x8 x9 x10) := by
  obtain ⟨a, ha0, ha⟩ := prior_act h3
  obtain ⟨b, hb0, hb⟩ := prior_time h5
  have G := good h1 h2 h4
  funext k
  obtain ⟨i, t, c, rfl⟩ : ∃ i t c, k = ix3 i t c := ⟨k 0, k 1, k 2, by funext j; fin_cases j <;> rfl⟩
  rw [result_read]
  split
  · rename_i hc
    exact (same_act G ha0 ha hb0 hb h2 h3 i t ⟨c.val, hc⟩).trans (congrArg (fun c => resVal (F := Ideal) x2 x0 x1 _ (ix3 i t c))
      (Fin.ext (Nat.zero_add _)))
  · rename_i hc
    exact (same_time G ha0 ha hb0 hb h4 h5 i t ⟨c.val - 64, _⟩).trans (congrArg (fun c => resVal (F := Ideal) x2 x0 x1 _ (ix3 i t c))
      (Fin.ext (Nat.add_sub_cancel' (not_lt.mp hc))))

end Cert.Idle
-- ==== Proof.lean ====
/- The frames of the kernel, of its idealized program and of the idealized reference, the kernel's idealized
   program against the kernel, and the kernel's result against the reference's. -/
module

public import proofs.«01_k».proof.Proof.Gen.ReferenceIdeal.Run
public import proofs.«01_k».proof.Proof.Gen.ReferenceIdeal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Same
public import Idealize.ShloMosaic.Adequacy
public import Idealize.ShloMosaic.Init

@[expose] public section

noncomputable section

namespace Cert.Proof

open Idealize.ShloMosaic Idealize.SL.Sem Cert.Kernel

/-- The reference leaves its arguments and its semaphores as it found them. -/
theorem reference_frame : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The kernel's result and the reference's are one array. -/
theorem value : Cert.algebraic_KernelIdeal_ReferenceIdeal_pre_well_posed (hKernelIdeal := Cert.KernelIdeal.Gen.facts)
    (hReferenceIdeal := Cert.ReferenceIdeal.Gen.facts) (hPre_well_posed := Cert.Idle.shapes) := by
  intro m ρ m' ρ' hpre hag
  have : Cert.Pre_well_posed.Facts := Cert.Idle.shapes
  refine ⟨_, (θ_run _ _ _).mono (fun _ h c => ⟨h.1 c, h.2 c⟩)
    (θ_run_and (Cert.KernelIdeal.Gen.runRes m ρ) (Cert.KernelIdeal.Gen.unchanged m ρ)),
    (θ_run _ _ _).mono (fun _ h c => ⟨(h c).1.trans ?_, (h c).2⟩) (Cert.ReferenceIdeal.Value.run (F := Ideal) m' ρ')⟩
  obtain ⟨a0, a1, a2, a3, a4, a5, a6, a7, a8, a9, a10⟩ := hag c
  obtain ⟨h1, h2, h3, h4, h5⟩ := hpre c
  rw [Cert.KernelIdeal.Gen.par_eq]
  refine (Cert.ReferenceIdeal.Read.val_main_v138_eq _).trans (Eq.trans ?_ (Cert.Idle.same h1 h2 h3 h4 h5))
  rw [← a0, ← a1, ← a2, ← a3, ← a4, ← a5, ← a6, ← a7, ← a8, ← a9, ← a10]

theorem claim : Cert.Claim := ⟨Cert.Kernel.Gen.facts, Cert.KernelIdeal.Gen.facts, Cert.ReferenceIdeal.Gen.facts, Cert.Idle.shapes,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial, trivial, value⟩

end Cert.Proof

end
